-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  bcast_S_S512x64 : S_.BroadcastsInDim S512x64 (![] : Fin 0 → Fin S512x64.rank)
  bcast_S_S1024x1 : S_.BroadcastsInDim S1024x1 (![] : Fin 0 → Fin S1024x1.rank)

variable [Facts]

def fn {F : FTy → Type} [FloatOps F] (main_arg0 : FVec F S1024x512 .bf16) (main_arg1 : FVec F S512x64 .bf16) (main_arg2 : IVec S1024x1 32) (main_arg3 : FVec F S4x512x1024 .bf16) (main_arg4 : FVec F S512x1024 .bf16) : IVec S1024x512 1 × IVec S512x64 1 × IVec S1024x1 1 :=
  let main_cst : FVec F S_ .bf16 := constant S_ .bf16 0xFF80#16
  let main_v0 : FVec F S1024x512 .bf16 := broadcastInDim S1024x512 ![] bcast_S_S1024x512 main_cst
  let main_v1 : IVec S1024x512 1 := cmpf .ogt main_arg0 main_v0
  let main_cst_0 : FVec F S_ .bf16 := constant S_ .bf16 0x7F80#16
  let main_v2 : FVec F S1024x512 .bf16 := broadcastInDim S1024x512 ![] bcast_S_S1024x512 main_cst_0
  let main_v3 : IVec S1024x512 1 := cmpf .olt main_arg0 main_v2
  let main_v4 : IVec S1024x512 1 := andi main_v1 main_v3
  let main_cst_1 : FVec F S_ .bf16 := constant S_ .bf16 0xFF80#16
  let main_v5 : FVec F S512x64 .bf16 := broadcastInDim S512x64 ![] bcast_S_S512x64 main_cst_1
  let main_v6 : IVec S512x64 1 := cmpf .ogt main_arg1 main_v5
  let main_cst_2 : FVec F S_ .bf16 := constant S_ .bf16 0x7F80#16
  let main_v7 : FVec F S512x64 .bf16 := broadcastInDim S512x64 ![] bcast_S_S512x64 main_cst_2
  let main_v8 : IVec S512x64 1 := cmpf .olt main_arg1 main_v7
  let main_v9 : IVec S512x64 1 := andi main_v6 main_v8
  let main_c : IVec S_ 32 := constantI S_ 32 0#32
  let main_v10 : IVec S1024x1 32 := broadcastInDim S1024x1 ![] bcast_S_S1024x1 main_c
  let main_v11 : IVec S1024x1 1 := cmpi .sge main_arg2 main_v10
  let main_c_3 : IVec S_ 32 := constantI S_ 32 64#32
  let main_v12 : IVec S1024x1 32 := broadcastInDim S1024x1 ![] bcast_S_S1024x1 main_c_3
  let main_v13 : IVec S1024x1 1 := cmpi .slt main_arg2 main_v12
  let main_v14 : IVec S1024x1 1 := andi main_v11 main_v13
  (main_v4, main_v9, main_v14)
-- ==== Pre_finite_and_routed_ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S_ : Shape := ⟨0, ![]⟩

class Facts : Prop where
  bcast_S_S16384x512 : S_.BroadcastsInDim S16384x512 (![] : Fin 0 → Fin S16384x512.rank)
  bcast_S_S512x64 : S_.BroadcastsInDim S512x64 (![] : Fin 0 → Fin S512x64.rank)
  bcast_S_S16384x1 : S_.BroadcastsInDim S16384x1 (![] : Fin 0 → Fin S16384x1.rank)

variable [Facts]

def fn {F : FTy → Type} [FloatOps F] (main_arg0 : FVec F S16384x512 .bf16) (main_arg1 : FVec F S512x64 .bf16) (main_arg2 : IVec S16384x1 32) (main_arg3 : FVec F S64x512x1024 .bf16) (main_arg4 : FVec F S512x1024 .bf16) : IVec S16384x512 1 × IVec S512x64 1 × IVec S16384x1 1 :=
  let main_cst : FVec F S_ .bf16 := constant S_ .bf16 0xFF80#16
  let main_v0 : FVec F S16384x512 .bf16 := broadcastInDim S16384x512 ![] bcast_S_S16384x512 main_cst
  let main_v1 : IVec S16384x512 1 := cmpf .ogt main_arg0 main_v0
  let main_cst_0 : FVec F S_ .bf16 := constant S_ .bf16 0x7F80#16
  let main_v2 : FVec F S16384x512 .bf16 := broadcastInDim S16384x512 ![] bcast_S_S16384x512 main_cst_0
  let main_v3 : IVec S16384x512 1 := cmpf .olt main_arg0 main_v2
  let main_v4 : IVec S16384x512 1 := andi main_v1 main_v3
  let main_cst_1 : FVec F S_ .bf16 := constant S_ .bf16 0xFF80#16
  let main_v5 : FVec F S512x64 .bf16 := broadcastInDim S512x64 ![] bcast_S_S512x64 main_cst_1
  let main_v6 : IVec S512x64 1 := cmpf .ogt main_arg1 main_v5
  let main_cst_2 : FVec F S_ .bf16 := constant S_ .bf16 0x7F80#16
  let main_v7 : FVec F S512x64 .bf16 := broadcastInDim S512x64 ![] bcast_S_S512x64 main_cst_2
  let main_v8 : IVec S512x64 1 := cmpf .olt main_arg1 main_v7
  let main_v9 : IVec S512x64 1 := andi main_v6 main_v8
  let main_c : IVec S_ 32 := constantI S_ 32 0#32
  let main_v10 : IVec S16384x1 32 := broadcastInDim S16384x1 ![] bcast_S_S16384x1 main_c
  let main_v11 : IVec S16384x1 1 := cmpi .sge main_arg2 main_v10
  let main_c_3 : IVec S_ 32 := constantI S_ 32 64#32
  let main_v12 : IVec S16384x1 32 := broadcastInDim S16384x1 ![] bcast_S_S16384x1 main_c_3
  let main_v13 : IVec S16384x1 1 := cmpi .slt main_arg2 main_v12
  let main_v14 : IVec S16384x1 1 := andi main_v11 main_v13
  (main_v4, main_v9, main_v14)
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S1024x1024 : Shape := ⟨2, ![1024, 1024]⟩
abbrev S2x2048x1024 : Shape := ⟨3, ![2, 2048, 1024]⟩
abbrev S1024x2048 : Shape := ⟨2, ![1024, 2048]⟩
abbrev S2 : Shape := ⟨1, ![2]⟩
abbrev S_ : Shape := ⟨0, ![]⟩
abbrev S2048x1024 : Shape := ⟨2, ![2048, 1024]⟩
abbrev S1x2048x1024 : Shape := ⟨3, ![1, 2048, 1024]⟩
abbrev S1 : Shape := ⟨1, ![1]⟩
abbrev S1024x64 : Shape := ⟨2, ![1024, 64]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S1024x1024, .f32⟩
  | .local _ .vmem, ⟨0, _⟩ => ⟨S1024x512, .bf16⟩
  | .local _ .vmem, ⟨1, _⟩ => ⟨S512x64, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S1024x1024, .f32⟩
  | .local _ .vmem, ⟨6, _⟩ => ⟨S2x2048x1024, .fp8e4m3⟩
  | .local _ .vmem, ⟨7, _⟩ => ⟨S2x2048x1024, .fp8e4m3⟩
  | .local _ .vmem, ⟨8, _⟩ => ⟨S1024x2048, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_22 : BitVec 32 := 1#32
  let v23 : BitVec 32 := Scalar.muli v7 c1_i32_22
  let v24 : BitVec 32 := Scalar.addi c0_i32_23 v23
  v24.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_32 : BitVec 32 := 1#32
  let v33 : BitVec 32 := Scalar.muli v5 c1_i32_32
  let v34 : BitVec 32 := Scalar.addi c0_i32_33 v33
  v34.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_88 : BitVec 32 := 1#32
  let v133 : BitVec 32 := Scalar.muli v5 c1_i32_88
  let v134 : BitVec 32 := Scalar.addi c0_i32_89 v133
  v134.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_100 : BitVec 32 := 1#32
  let v141 : BitVec 32 := Scalar.muli v7 c1_i32_100
  let v142 : BitVec 32 := Scalar.addi c0_i32_101 v141
  v142.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_128 : BitVec 32 := 1#32
  let v159 : BitVec 32 := Scalar.muli v7 c1_i32_128
  let v160 : BitVec 32 := Scalar.addi c0_i32_129 v159
  v160.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_140 : BitVec 32 := 1#32
  let v169 : BitVec 32 := Scalar.muli v5 c1_i32_140
  let v170 : BitVec 32 := Scalar.addi c0_i32_141 v169
  v170.toNat
def k0_dev9 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_220 : BitVec 32 := 1#32
  let v304 : BitVec 32 := Scalar.muli v5 c1_i32_220
  let v305 : BitVec 32 := Scalar.addi c0_i32_221 v304
  v305.toNat
def k0_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_232 : BitVec 32 := 1#32
  let v312 : BitVec 32 := Scalar.muli v7 c1_i32_232
  let v313 : BitVec 32 := Scalar.addi c0_i32_233 v312
  v313.toNat
def k0_dev11 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_260 : BitVec 32 := 1#32
  let v330 : BitVec 32 := Scalar.muli v7 c1_i32_260
  let v331 : BitVec 32 := Scalar.addi c0_i32_261 v330
  v331.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_272 : BitVec 32 := 1#32
  let v340 : BitVec 32 := Scalar.muli v5 c1_i32_272
  let v341 : BitVec 32 := Scalar.addi c0_i32_273 v340
  v341.toNat
def k0_dev13 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_353 : BitVec 32 := 1#32
  let v475 : BitVec 32 := Scalar.muli v5 c1_i32_353
  let v476 : BitVec 32 := Scalar.addi c0_i32_354 v475
  v476.toNat
def k0_dev14 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_365 : BitVec 32 := 1#32
  let v483 : BitVec 32 := Scalar.muli v7 c1_i32_365
  let v484 : BitVec 32 := Scalar.addi c0_i32_366 v483
  v484.toNat
def k0_dev15 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_393 : BitVec 32 := 1#32
  let v501 : BitVec 32 := Scalar.muli v7 c1_i32_393
  let v502 : BitVec 32 := Scalar.addi c0_i32_394 v501
  v502.toNat
def k0_dev16 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_405 : BitVec 32 := 1#32
  let v511 : BitVec 32 := Scalar.muli v5 c1_i32_405
  let v512 : BitVec 32 := Scalar.addi c0_i32_406 v511
  v512.toNat
def k0_dev17 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_486 : BitVec 32 := 1#32
  let v646 : BitVec 32 := Scalar.muli v5 c1_i32_486
  let v647 : BitVec 32 := Scalar.addi c0_i32_487 v646
  v647.toNat
def k0_dev18 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_498 : BitVec 32 := 1#32
  let v654 : BitVec 32 := Scalar.muli v7 c1_i32_498
  let v655 : BitVec 32 := Scalar.addi c0_i32_499 v654
  v655.toNat
def k0_dev19 (d0 : Dev nD) : Nat :=
  let c0_i32_527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_526 : BitVec 32 := 1#32
  let v672 : BitVec 32 := Scalar.muli v7 c1_i32_526
  let v673 : BitVec 32 := Scalar.addi c0_i32_527 v672
  v673.toNat
def k0_dev20 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_538 : BitVec 32 := 1#32
  let v682 : BitVec 32 := Scalar.muli v5 c1_i32_538
  let v683 : BitVec 32 := Scalar.addi c0_i32_539 v682
  v683.toNat
def k0_dev21 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_619 : BitVec 32 := 1#32
  let v817 : BitVec 32 := Scalar.muli v5 c1_i32_619
  let v818 : BitVec 32 := Scalar.addi c0_i32_620 v817
  v818.toNat
def k0_dev22 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_631 : BitVec 32 := 1#32
  let v825 : BitVec 32 := Scalar.muli v7 c1_i32_631
  let v826 : BitVec 32 := Scalar.addi c0_i32_632 v825
  v826.toNat
def k0_dev23 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_659 : BitVec 32 := 1#32
  let v843 : BitVec 32 := Scalar.muli v7 c1_i32_659
  let v844 : BitVec 32 := Scalar.addi c0_i32_660 v843
  v844.toNat
def k0_dev24 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_671 : BitVec 32 := 1#32
  let v853 : BitVec 32 := Scalar.muli v5 c1_i32_671
  let v854 : BitVec 32 := Scalar.addi c0_i32_672 v853
  v854.toNat
def k0_dev25 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_751 : BitVec 32 := 1#32
  let v988 : BitVec 32 := Scalar.muli v5 c1_i32_751
  let v989 : BitVec 32 := Scalar.addi c0_i32_752 v988
  v989.toNat
def k0_dev26 (d0 : Dev nD) : Nat :=
  let c0_i32_764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_763 : BitVec 32 := 1#32
  let v996 : BitVec 32 := Scalar.muli v7 c1_i32_763
  let v997 : BitVec 32 := Scalar.addi c0_i32_764 v996
  v997.toNat
def k0_dev27 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_791 : BitVec 32 := 1#32
  let v1014 : BitVec 32 := Scalar.muli v7 c1_i32_791
  let v1015 : BitVec 32 := Scalar.addi c0_i32_792 v1014
  v1015.toNat
def k0_dev28 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_803 : BitVec 32 := 1#32
  let v1024 : BitVec 32 := Scalar.muli v5 c1_i32_803
  let v1025 : BitVec 32 := Scalar.addi c0_i32_804 v1024
  v1025.toNat
def k0_dev29 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_883 : BitVec 32 := 1#32
  let v1159 : BitVec 32 := Scalar.muli v5 c1_i32_883
  let v1160 : BitVec 32 := Scalar.addi c0_i32_884 v1159
  v1160.toNat
def k0_dev30 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_920 : BitVec 32 := 1#32
  let v1183 : BitVec 32 := Scalar.muli v7 c1_i32_920
  let v1184 : BitVec 32 := Scalar.addi c0_i32_921 v1183
  v1184.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S512x1024 : Shape := ⟨2, ![512, 1024]⟩
abbrev S16384x64 : Shape := ⟨2, ![16384, 64]⟩
abbrev S_ : Shape := ⟨0, ![]⟩
abbrev S16384 : Shape := ⟨1, ![16384]⟩
abbrev S16384x1024 : Shape := ⟨2, ![16384, 1024]⟩
abbrev S16384x512x1024 : Shape := ⟨3, ![16384, 512, 1024]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x1, .i32⟩
  | .hbm, ⟨3, _⟩ => ⟨S64x512x1024, .bf16⟩
  | .hbm, ⟨4, _⟩ => ⟨S512x1024, .bf16⟩
  | .hbm, ⟨5, _⟩ => ⟨S16384x512, .f32⟩
  | .hbm, ⟨6, _⟩ => ⟨S512x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x64, .f32⟩
  | .hbm, ⟨12, _⟩ => ⟨S16384x64, .f32⟩
  | .hbm, ⟨13, _⟩ => ⟨S16384x64, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S512x1024, .f32⟩
  | .hbm, ⟨20, _⟩ => ⟨S16384x1024, .f32⟩
  | .hbm, ⟨21, _⟩ => ⟨S64x512x1024, .f32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S16384x1, .i32⟩
  | .hbm, ⟨31, _⟩ => ⟨S16384x512x1024, .f32⟩
  | .hbm, ⟨32, _⟩ => ⟨S16384x1024, .f32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S_, .i32⟩
  | .hbm, ⟨37, _⟩ => ⟨S16384x1, .i32⟩
  | .hbm, ⟨38, _⟩ => ⟨S16384x1, .i32⟩
  | .hbm, ⟨39, _⟩ => ⟨S16384x1, .i32⟩
  | .hbm, ⟨40, _⟩ => ⟨S16384x1x1, .i32⟩
  | .hbm, ⟨41, _⟩ => ⟨S1, .i32⟩
  | .hbm, ⟨42, _⟩ => ⟨S_, .i32⟩
  | .hbm, ⟨43, _⟩ => ⟨S16384x1x1, .i32⟩
  | .hbm, ⟨44, _⟩ => ⟨S16384x1x1, .i1⟩
  | .hbm, ⟨45, _⟩ => ⟨S1x1x1, .i32⟩
  | .hbm, ⟨46, _⟩ => ⟨S16384x1x1, .i32⟩
  | .hbm, ⟨47, _⟩ => ⟨S16384x1x1, .i1⟩
  | .hbm, ⟨48, _⟩ => ⟨S16384x1x1, .i1⟩
  | .hbm, ⟨49, _⟩ => ⟨S_, .i1⟩
  | .hbm, ⟨50, _⟩ => ⟨S16384x1, .i1⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.KernelIdeal.Prog.lean ====
/- The kernel's body written as a program of steps: the barrier handshake, the own block, and the rounds of the two
   rings, each round the same functions at its own number. `body_eq` says the printed body is this program. -/
module

public import proofs.«01_k».proof.Proof.Gen.KernelIdeal
public import proofs.«01_k».proof.Proof.Gen.KernelIdeal.Skeleton

@[expose] public section

set_option synthInstance.maxSize 4096

noncomputable section

namespace Cert.KernelIdeal.Moe

open Idealize.ShloMosaic Idealize.SL.Sem Cert.KernelIdeal.Gen

variable {F : FTy → Type} [FloatOps F]

/-- A ring buffer of two expert-block slots. -/
abbrev Comm := Memref sig .tc .vmem S2x2048x1024 .fp8e4m3

/-! ## Slots and semaphores by round -/

theorem mod2_cases (n : ℕ) : n % 2 = 0 ∨ n % 2 = 1 := Nat.mod_two_eq_zero_or_one n

theorem slot_inb (n : ℕ) : ∀ a, (![n % 2, 0, 0] : Fin 3 → Nat) a + S1x2048x1024.size a ≤ S2x2048x1024.size a := by
  rcases mod2_cases n with h | h <;> rw [h]
  exacts [inb_S2x2048x1024_S1x2048x1024_0_0_0, inb_S2x2048x1024_S1x2048x1024_1_0_0]

theorem sem_inb (n : ℕ) : ∀ a, (![n % 2] : Fin 1 → Nat) a + S1.size a ≤ S2.size a := by
  rcases mod2_cases n with h | h <;> rw [h]
  exacts [inb_S2_S1_0, inb_S2_S1_1]

/-- The rectangle of slot `n % 2`. -/
abbrev slotRect (n : ℕ) : Rect S2x2048x1024 := Rect.unit (s := S2x2048x1024) ![n % 2, 0, 0] S1x2048x1024.size (slot_inb n)

theorem slot_words (n : ℕ) : (slotRect n).WholeWords (EltTy.packing .fp8e4m3) := by
  unfold slotRect
  have h := mod2_cases n
  generalize n % 2 = m, slot_inb n = i at h
  rcases h with rfl | rfl
  exacts [wordsfp8e4m3_S2x2048x1024_S1x2048x1024_0_0_0, wordsfp8e4m3_S2x2048x1024_S1x2048x1024_1_0_0]

/-- Slot `n % 2` of a ring buffer, as the copies name it. -/
def slot (a : Comm) (n : ℕ) : Memref sig .tc .vmem S2048x1024 .fp8e4m3 :=
  (a.slice (Rect.unit (s := S2x2048x1024) ![n % 2, 0, 0] S1x2048x1024.size (slot_inb n)) (fun _ => rfl)).squeeze S2048x1024
    squeezes_S1x2048x1024_S2048x1024

/-- Semaphore `n % 2` of a pair. -/
def sem2 (a : DmaSems sig S2) (n : ℕ) : DmaSem sig :=
  ((a.slice (Rect.unit (s := S2) ![n % 2] S1.size (sem_inb n))).squeeze S_ squeezes_S1_S_).sem

theorem slot_wordExact {a : Comm} (ha : a.IsWhole) (n : ℕ) : (slot a n).view.WordExact :=
  (ha.wordExact_slice rfl _ (slot_words n)).reshape _ _

/-! ## The words of a device and of a block's owner -/

/-- The device's own word. -/
def myWord (d : Dev nD) : BitVec 32 := Scalar.remsi (Scalar.divsi (Dev.word d) 1#32) 16#32

/-- The owner of the block the right-going ring computes on in round `r`. -/
def ownR (d : Dev nD) (r : ℕ) : BitVec 32 :=
  Scalar.remsi (Scalar.addi (Scalar.subi (myWord d) (BitVec.ofNat 32 r)) 16#32) 16#32

/-- The owner of the block the left-going ring computes on in round `r`. -/
def ownL (d : Dev nD) (r : ℕ) : BitVec 32 := Scalar.remsi (Scalar.addi (myWord d) (BitVec.ofNat 32 r)) 16#32

/-! ## The values a step stores -/

/-- The tokens scaled by their own probability where their expert is expert `j` of owner `e`, by zero elsewhere. -/
def masked (x : FVec F S1024x512 .bf16) (idx : IVec S1024x1 32) (p : FVec F S1024x1 .f32) (e : BitVec 32) (j : ℕ) :
    FVec F S1024x512 .bf16 :=
  shapeCast S1024x512 (mulf x (broadcastTo S1024x512 (truncf .bf16
    (select (cmpi .eq idx (broadcast S1024x1 (Scalar.addi (Scalar.muli e 4#32) (BitVec.ofNat 32 j)))) p
      (broadcast S1024x1 (Scalar.ofBits .f32 0x00000000#32))) bitsLt_bf16_f32) broadcasts_S1024x1_S1024x512))
    shapeCasts_S1024x512_S1024x512

/-- The output after a block: the output before plus the masked tokens times the block. -/
def accum (w : Vec F S1x2048x1024 .fp8e4m3) (o : Vec F S1024x1024 .f32) (xc : Vec F S1024x2048 .bf16) :
    FVec F S1024x1024 .f32 := k0_pay15 w o xc

/-! ## The steps -/

/-- A program of the kernel's body. -/
abbrev Pr (F : FTy → Type) [FloatOps F] (α : Type) := Prog (TpuEff nD τ sig (Elt F) Λ₀ .tc) α

/-- Write one of the four pieces of the masked tokens. -/
def putPiece (a8 : Memref sig .tc .vmem S1024x2048 .bf16) (h8 : a8.IsWhole) (o : ℕ)
    (hin : ∀ a, (![0, o] : Fin 2 → Nat) a + S1024x512.size a ≤ S1024x2048.size a)
    (hpk : (Rect.unit (s := S1024x2048) ![0, o] S1024x512.size hin).PackedRows (EltTy.packing .bf16))
    (v : FVec F S1024x512 .bf16) : Pr F PUnit := do
  let _ : Vec F S1024x512 .bf16 ← Prog.lift (.load a8 (Rect.unit (s := S1024x2048) ![0, o] S1024x512.size hin).toLoadRect
    (View.loadsAt_vmem h_S1024x512))
  Prog.lift (.store a8 (Rect.unit (s := S1024x2048) ![0, o] S1024x512.size hin) v Finset.univ
    (View.stores_vmem h_S1024x512 (h8.storeExact_slice rfl _ hpk) (fun _ => rfl)) (.inl rfl))

/-- The four pieces of the masked tokens for owner `e`. -/
def putMasked (a8 : Memref sig .tc .vmem S1024x2048 .bf16) (h8 : a8.IsWhole) (x : FVec F S1024x512 .bf16)
    (idx : IVec S1024x1 32) (p : FVec F S1024x1 .f32) (e : BitVec 32) : Pr F PUnit := do
  putPiece a8 h8 0 inb_S1024x2048_S1024x512_0_0 packedbf16_S1024x2048_S1024x512_0_0 (masked x idx p e 0)
  putPiece a8 h8 512 inb_S1024x2048_S1024x512_0_512 packedbf16_S1024x2048_S1024x512_0_512 (masked x idx p e 1)
  putPiece a8 h8 1024 inb_S1024x2048_S1024x512_0_1024 packedbf16_S1024x2048_S1024x512_0_1024 (masked x idx p e 2)
  putPiece a8 h8 1536 inb_S1024x2048_S1024x512_0_1536 packedbf16_S1024x2048_S1024x512_0_1536 (masked x idx p e 3)

/-- Add the product with the block in slot `n` of a ring buffer. -/
def addBlock (a5 : Memref sig .tc .vmem S1024x1024 .f32) (a8 : Memref sig .tc .vmem S1024x2048 .bf16) (a : Comm) (n : ℕ) :
    Pr F PUnit := do
  let w : Vec F S1x2048x1024 .fp8e4m3 ← Prog.lift (.load a (Rect.unit (s := S2x2048x1024) ![n % 2, 0, 0] S1x2048x1024.size
    (slot_inb n)).toLoadRect (View.loadsAt_vmem h_S1x2048x1024))
  let o : Vec F S1024x1024 .f32 ← Prog.lift (.load a5 (Rect.unit (s := S1024x1024) ![0, 0] S1024x1024.size
    inb_S1024x1024_S1024x1024_0_0).toLoadRect (View.loadsAt_vmem h_S1024x1024))
  let xc : Vec F S1024x2048 .bf16 ← Prog.lift (.load a8 (Rect.unit (s := S1024x2048) ![0, 0] S1024x2048.size
    inb_S1024x2048_S1024x2048_0_0).toLoadRect (View.loadsAt_vmem h_S1024x2048))
  let _ : Vec F S1024x1024 .f32 ← Prog.lift (.load a5 (Rect.unit (s := S1024x1024) ![0, 0] S1024x1024.size
    inb_S1024x1024_S1024x1024_0_0).toLoadRect (View.loadsAt_vmem h_S1024x1024))
  Prog.lift (.store a5 (Rect.unit (s := S1024x1024) ![0, 0] S1024x1024.size inb_S1024x1024_S1024x1024_0_0) (accum w o xc)
    Finset.univ (View.stores_vmem_bits_univ h_S1024x1024 rfl) (.inl rfl))

/-- One block's contribution. -/
def blockStep (a5 : Memref sig .tc .vmem S1024x1024 .f32) (a8 : Memref sig .tc .vmem S1024x2048 .bf16) (h8 : a8.IsWhole)
    (a : Comm) (n : ℕ) (x : FVec F S1024x512 .bf16) (idx : IVec S1024x1 32) (p : FVec F S1024x1 .f32) (e : BitVec 32) :
    Pr F PUnit := do
  putMasked a8 h8 x idx p e
  addBlock a5 a8 a n

/-! ## The kernel's own buffers and semaphores -/

/-- The ring buffer of a side: `true` the ring that sends to the right, `false` the ring that sends to the left. -/
def comm : Bool → Comm
  | true => Memref.whole cc0_scratch0
  | false => Memref.whole cc0_scratch1
theorem hcomm : ∀ X, (comm X).IsWhole
  | true => Memref.isWhole_whole _
  | false => Memref.isWhole_whole _
abbrev xc : Memref sig .tc .vmem S1024x2048 .bf16 := Memref.whole cc0_scratch2
theorem hxc : (xc).IsWhole := Memref.isWhole_whole _
/-- The semaphores of a side's copies as they leave, and as they land. -/
def semS : Bool → DmaSems sig S2
  | true => cc0_scratch3
  | false => cc0_scratch5
def semV : Bool → DmaSems sig S2
  | true => cc0_scratch4
  | false => cc0_scratch6
/-- The barrier cell. -/
def barSem : Sem sig := (SemArray.scalar (sig.barrier 0 rfl) : Sems sig S_).sem
/-- The cell of a side's credits. -/
def rdy : Bool → Sem sig
  | true => (cc0_scratch7 : Sems sig S_).sem
  | false => (cc0_scratch8 : Sems sig S_).sem

theorem not_sc : ∀ (X : Bool) (n : ℕ), (slot (comm X) n).view.ref.isScScratch = false
  | true, _ => rfl
  | false, _ => rfl

/-- Send slot `r` to the neighbour's other slot. -/
def sendStep (X : Bool) (r : ℕ) (d : Dev nD) : Pr F PUnit :=
  Prog.lift (.enqueueDma (slot (comm X) r) (.remote (Dev.tc d) (slot (comm X) (r + 1)) (.dma (sem2 (semS X) r)) (not_sc X (r + 1)))
    (.dma (sem2 (semV X) (r + 1))) (slot_wordExact (hcomm X) r) (slot_wordExact (hcomm X) (r + 1)) ⟨⟨rfl, Or.inl rfl⟩, trivial⟩)

/-- Wait until the block sent in round `r` has left. -/
def sentStep (X : Bool) (r : ℕ) : Pr F PUnit :=
  Prog.lift (.waitDma2 (sem2 (semS X) r) (slot (comm X) (r + 1)) (slot (comm X) r) (slot_wordExact (hcomm X) (r + 1))
    (slot_wordExact (hcomm X) r))

/-- Wait until the block of round `r` has arrived. -/
def recvStep (X : Bool) (r : ℕ) : Pr F PUnit :=
  Prog.lift (.waitDma2 (sem2 (semV X) (r + 1)) (slot (comm X) r) (slot (comm X) (r + 1)) (slot_wordExact (hcomm X) r)
    (slot_wordExact (hcomm X) (r + 1)))

/-- Keep the device's own block in slot 0. -/
def putOwn (X : Bool) (v : FVec F S1x2048x1024 .fp8e4m3) : Pr F PUnit := do
  let _ : Vec F S1x2048x1024 .fp8e4m3 ← Prog.lift (.load (comm X) (Rect.unit (s := S2x2048x1024) ![0, 0, 0] S1x2048x1024.size
    inb_S2x2048x1024_S1x2048x1024_0_0_0).toLoadRect (View.loadsAt_vmem h_S1x2048x1024))
  Prog.lift (.store (comm X) (Rect.unit (s := S2x2048x1024) ![0, 0, 0] S1x2048x1024.size inb_S2x2048x1024_S1x2048x1024_0_0_0) v
    Finset.univ (View.stores_vmem h_S1x2048x1024 ((hcomm X).storeExact_slice rfl _
      packedfp8e4m3_S2x2048x1024_S1x2048x1024_0_0_0) (fun _ => rfl)) (.inl rfl))

/-- What a device works with after its loads. -/
structure Loaded (F : FTy → Type) [FloatOps F] where
  d : Dev nD
  x : FVec F S1024x512 .bf16
  idx : IVec S1024x1 32
  p : FVec F S1024x1 .f32

/-- The handshake. -/
def barrierStep (left right : Dev nD) : Pr F PUnit := do
  semSignalWord left barSem 1#32
  semSignalWord right barSem 1#32
  semWaitWord barSem 2#32

/-- The handshake, the own block into both rings, the first sends. -/
def startRing (arg3 : Memref sig .tc .vmem S4x512x1024 .bf16) (d left right left' right' : Dev nD) : Pr F PUnit := do
  barrierStep left right
  let w : Vec F S4x512x1024 .bf16 ← Prog.lift (.load arg3 (Rect.unit (s := S4x512x1024) ![0, 0, 0] S4x512x1024.size
    inb_S4x512x1024_S4x512x1024_0_0_0).toLoadRect (View.loadsAt_vmem h_S4x512x1024))
  putOwn true (k0_pay3 w)
  putOwn false (k0_pay3 w)
  sendStep true 0 right'
  sendStep false 0 left'

/-- The router and the shared expert. -/
def startTokens (arg0 : Memref sig .tc .vmem S1024x512 .bf16) (arg1 : Memref sig .tc .vmem S512x64 .bf16)
    (arg2 : Memref sig .tc .vmem S1024x1 .i32) (arg4 : Memref sig .tc .vmem S512x1024 .bf16)
    (arg5 : Memref sig .tc .vmem S1024x1024 .f32) (d : Dev nD) : Pr F (Loaded F) := do
  let x : Vec F S1024x512 .bf16 ← Prog.lift (.load arg0 (Rect.unit (s := S1024x512) ![0, 0] S1024x512.size
    inb_S1024x512_S1024x512_0_0).toLoadRect (View.loadsAt_vmem h_S1024x512))
  let rw : Vec F S512x64 .bf16 ← Prog.lift (.load arg1 (Rect.unit (s := S512x64) ![0, 0] S512x64.size
    inb_S512x64_S512x64_0_0).toLoadRect (View.loadsAt_vmem h_S512x64))
  let i : Vec F S1024x1 .i32 ← Prog.lift (.load arg2 (Rect.unit (s := S1024x1) ![0, 0] S1024x1.size
    inb_S1024x1_S1024x1_0_0).toLoadRect (View.loadsAt_vmem h_S1024x1))
  let sw : Vec F S512x1024 .bf16 ← Prog.lift (.load arg4 (Rect.unit (s := S512x1024) ![0, 0] S512x1024.size
    inb_S512x1024_S512x1024_0_0).toLoadRect (View.loadsAt_vmem h_S512x1024))
  let _ : Vec F S1024x1024 .f32 ← Prog.lift (.load arg5 (Rect.unit (s := S1024x1024) ![0, 0] S1024x1024.size
    inb_S1024x1024_S1024x1024_0_0).toLoadRect (View.loadsAt_vmem h_S1024x1024))
  Prog.lift (.store arg5 (Rect.unit (s := S1024x1024) ![0, 0] S1024x1024.size inb_S1024x1024_S1024x1024_0_0)
    (k0_pay9 (k0_pay5 x) sw) Finset.univ (View.stores_vmem_bits_univ h_S1024x1024 rfl) (.inl rfl))
  pure ⟨d, k0_pay5 x, k0_pay7 i, k0_pay8 (k0_pay6 x rw) (k0_pay7 i)⟩

/-- The sends of a round, each after its credit. -/
def sendBoth (r : ℕ) (right left : Dev nD) : Pr F PUnit := do
  semWaitWord (rdy true) 1#32
  sendStep true r right
  semWaitWord (rdy false) 1#32
  sendStep false r left

/-- Both rings' blocks of a round. -/
def computeBoth (arg5 : Memref sig .tc .vmem S1024x1024 .f32) (v : Loaded F) (r : ℕ) : Pr F PUnit := do
  blockStep arg5 xc hxc (comm true) r v.x v.idx v.p (ownR v.d r)
  blockStep arg5 xc hxc (comm false) r v.x v.idx v.p (ownL v.d r)

/-- The end of a round: each block sent is out, its slot is offered again where a later round fills it, and the next
    blocks are in. -/
def finishBoth (more : Bool) (r : ℕ) (left right : Dev nD) : Pr F PUnit := do
  sentStep true r
  semSignalWord left (rdy true) 1#32
  sentStep false r
  match more with
  | true => semSignalWord right (rdy false) 1#32
  | false => pure ⟨⟩
  recvStep true r
  recvStep false r

/-- A round in which both rings send. -/
def midRound (arg5 : Memref sig .tc .vmem S1024x1024 .f32) (v : Loaded F) (more : Bool) (r : ℕ)
    (right left left' right' : Dev nD) : Pr F PUnit := do
  sendBoth r right left
  computeBoth arg5 v r
  finishBoth more r left' right'

/-- The last round: the right-going ring alone, and the block it brings. -/
def lastRound (arg5 : Memref sig .tc .vmem S1024x1024 .f32) (v : Loaded F) (right : Dev nD) : Pr F PUnit := do
  semWaitWord (rdy true) 1#32
  sendStep true 7 right
  computeBoth arg5 v 7
  sentStep true 7
  recvStep true 7
  blockStep arg5 xc hxc (comm true) 8 v.x v.idx v.p (ownR v.d 8)

/-- The body over the devices `dv 1, dv 2, …` its remote steps name, in the order they come. -/
def prog (arg0 : Memref sig .tc .vmem S1024x512 .bf16) (arg1 : Memref sig .tc .vmem S512x64 .bf16)
    (arg2 : Memref sig .tc .vmem S1024x1 .i32) (arg3 : Memref sig .tc .vmem S4x512x1024 .bf16)
    (arg4 : Memref sig .tc .vmem S512x1024 .bf16) (arg5 : Memref sig .tc .vmem S1024x1024 .f32)
    (toR toL : Dev nD → ℕ → Dev nD) : Pr F PUnit := do
  let d : Dev nD ← Prog.lift .deviceId
  startRing arg3 d (toL d 0) (toR d 0) (toL d 1) (toR d 1)
  let v ← startTokens arg0 arg1 arg2 arg4 arg5 d
  blockStep arg5 xc hxc (comm true) 0 v.x v.idx v.p (myWord v.d)
  finishBoth true 0 (toL d 2) (toR d 2)
  midRound arg5 v true 1 (toR d 3) (toL d 3) (toL d 4) (toR d 4)
  midRound arg5 v true 2 (toR d 5) (toL d 5) (toL d 6) (toR d 6)
  midRound arg5 v true 3 (toR d 7) (toL d 7) (toL d 8) (toR d 8)
  midRound arg5 v true 4 (toR d 9) (toL d 9) (toL d 10) (toR d 10)
  midRound arg5 v true 5 (toR d 11) (toL d 11) (toL d 12) (toR d 12)
  midRound arg5 v false 6 (toR d 13) (toL d 13) (toL d 14) (toR d 14)
  lastRound arg5 v (toR d 15)

/-- The neighbours on the ring. -/
def nxt (d : Dev nD) : Dev nD := ⟨(d.val + 1) % 16, Nat.mod_lt _ (by decide)⟩
def prv (d : Dev nD) : Dev nD := ⟨(d.val + 15) % 16, Nat.mod_lt _ (by decide)⟩

/-- The devices the printed body names to its right, in order. -/
def devR (d : Dev nD) : ℕ → Dev nD
  | 0 => ⟨k0_dev2 d, k0_dev2_lt d⟩
  | 1 => ⟨k0_dev3 d, k0_dev3_lt d⟩
  | 2 => ⟨k0_dev6 d, k0_dev6_lt d⟩
  | 3 => ⟨k0_dev7 d, k0_dev7_lt d⟩
  | 4 => ⟨k0_dev10 d, k0_dev10_lt d⟩
  | 5 => ⟨k0_dev11 d, k0_dev11_lt d⟩
  | 6 => ⟨k0_dev14 d, k0_dev14_lt d⟩
  | 7 => ⟨k0_dev15 d, k0_dev15_lt d⟩
  | 8 => ⟨k0_dev18 d, k0_dev18_lt d⟩
  | 9 => ⟨k0_dev19 d, k0_dev19_lt d⟩
  | 10 => ⟨k0_dev22 d, k0_dev22_lt d⟩
  | 11 => ⟨k0_dev23 d, k0_dev23_lt d⟩
  | 12 => ⟨k0_dev26 d, k0_dev26_lt d⟩
  | 13 => ⟨k0_dev27 d, k0_dev27_lt d⟩
  | 15 => ⟨k0_dev30 d, k0_dev30_lt d⟩
  | _ => nxt d

/-- The devices the printed body names to its left, in order. -/
def devL (d : Dev nD) : ℕ → Dev nD
  | 0 => ⟨k0_dev1 d, k0_dev1_lt d⟩
  | 1 => ⟨k0_dev4 d, k0_dev4_lt d⟩
  | 2 => ⟨k0_dev5 d, k0_dev5_lt d⟩
  | 3 => ⟨k0_dev8 d, k0_dev8_lt d⟩
  | 4 => ⟨k0_dev9 d, k0_dev9_lt d⟩
  | 5 => ⟨k0_dev12 d, k0_dev12_lt d⟩
  | 6 => ⟨k0_dev13 d, k0_dev13_lt d⟩
  | 7 => ⟨k0_dev16 d, k0_dev16_lt d⟩
  | 8 => ⟨k0_dev17 d, k0_dev17_lt d⟩
  | 9 => ⟨k0_dev20 d, k0_dev20_lt d⟩
  | 10 => ⟨k0_dev21 d, k0_dev21_lt d⟩
  | 11 => ⟨k0_dev24 d, k0_dev24_lt d⟩
  | 12 => ⟨k0_dev25 d, k0_dev25_lt d⟩
  | 13 => ⟨k0_dev28 d, k0_dev28_lt d⟩
  | 14 => ⟨k0_dev29 d, k0_dev29_lt d⟩
  | _ => prv d

set_option maxRecDepth 65536 in
/-- The printed body is the program of steps. -/
theorem body_eq_raw (arg0 : Memref sig .tc .vmem S1024x512 .bf16) (h0 : arg0.IsWhole)
    (arg1 : Memref sig .tc .vmem S512x64 .bf16) (h1 : arg1.IsWhole) (arg2 : Memref sig .tc .vmem S1024x1 .i32)
    (h2 : arg2.IsWhole) (arg3 : Memref sig .tc .vmem S4x512x1024 .bf16) (h3 : arg3.IsWhole)
    (arg4 : Memref sig .tc .vmem S512x1024 .bf16) (h4 : arg4.IsWhole) (arg5 : Memref sig .tc .vmem S1024x1024 .f32)
    (h5 : arg5.IsWhole) :
    cc0_body (F := F) arg0 h0 arg1 h1 arg2 h2 arg3 h3 arg4 h4 arg5 h5 (comm true) (hcomm true) (comm false) (hcomm false) xc hxc cc0_scratch3 cc0_scratch4
      cc0_scratch5 cc0_scratch6 cc0_scratch7 cc0_scratch8 =
    prog arg0 arg1 arg2 arg3 arg4 arg5 devR devL := rfl

theorem devR_at (d : Dev nD) : ∀ k, devR d k = nxt d
  | 0 => (Fin.ext (k0_dev2_eq d) : (⟨k0_dev2 d, k0_dev2_lt d⟩ : Dev nD) = nxt d)
  | 1 => (Fin.ext (k0_dev3_eq d) : (⟨k0_dev3 d, k0_dev3_lt d⟩ : Dev nD) = nxt d)
  | 2 => (Fin.ext (k0_dev6_eq d) : (⟨k0_dev6 d, k0_dev6_lt d⟩ : Dev nD) = nxt d)
  | 3 => (Fin.ext (k0_dev7_eq d) : (⟨k0_dev7 d, k0_dev7_lt d⟩ : Dev nD) = nxt d)
  | 4 => (Fin.ext (k0_dev10_eq d) : (⟨k0_dev10 d, k0_dev10_lt d⟩ : Dev nD) = nxt d)
  | 5 => (Fin.ext (k0_dev11_eq d) : (⟨k0_dev11 d, k0_dev11_lt d⟩ : Dev nD) = nxt d)
  | 6 => (Fin.ext (k0_dev14_eq d) : (⟨k0_dev14 d, k0_dev14_lt d⟩ : Dev nD) = nxt d)
  | 7 => (Fin.ext (k0_dev15_eq d) : (⟨k0_dev15 d, k0_dev15_lt d⟩ : Dev nD) = nxt d)
  | 8 => (Fin.ext (k0_dev18_eq d) : (⟨k0_dev18 d, k0_dev18_lt d⟩ : Dev nD) = nxt d)
  | 9 => (Fin.ext (k0_dev19_eq d) : (⟨k0_dev19 d, k0_dev19_lt d⟩ : Dev nD) = nxt d)
  | 10 => (Fin.ext (k0_dev22_eq d) : (⟨k0_dev22 d, k0_dev22_lt d⟩ : Dev nD) = nxt d)
  | 11 => (Fin.ext (k0_dev23_eq d) : (⟨k0_dev23 d, k0_dev23_lt d⟩ : Dev nD) = nxt d)
  | 12 => (Fin.ext (k0_dev26_eq d) : (⟨k0_dev26 d, k0_dev26_lt d⟩ : Dev nD) = nxt d)
  | 13 => (Fin.ext (k0_dev27_eq d) : (⟨k0_dev27 d, k0_dev27_lt d⟩ : Dev nD) = nxt d)
  | 14 => rfl
  | 15 => (Fin.ext (k0_dev30_eq d) : (⟨k0_dev30 d, k0_dev30_lt d⟩ : Dev nD) = nxt d)
  | _ + 16 => rfl

theorem devR_eq : devR = fun d _ => nxt d := funext fun d => funext fun k => devR_at d k

theorem devL_at (d : Dev nD) : ∀ k, devL d k = prv d
  | 0 => (Fin.ext (k0_dev1_eq d) : (⟨k0_dev1 d, k0_dev1_lt d⟩ : Dev nD) = prv d)
  | 1 => (Fin.ext (k0_dev4_eq d) : (⟨k0_dev4 d, k0_dev4_lt d⟩ : Dev nD) = prv d)
  | 2 => (Fin.ext (k0_dev5_eq d) : (⟨k0_dev5 d, k0_dev5_lt d⟩ : Dev nD) = prv d)
  | 3 => (Fin.ext (k0_dev8_eq d) : (⟨k0_dev8 d, k0_dev8_lt d⟩ : Dev nD) = prv d)
  | 4 => (Fin.ext (k0_dev9_eq d) : (⟨k0_dev9 d, k0_dev9_lt d⟩ : Dev nD) = prv d)
  | 5 => (Fin.ext (k0_dev12_eq d) : (⟨k0_dev12 d, k0_dev12_lt d⟩ : Dev nD) = prv d)
  | 6 => (Fin.ext (k0_dev13_eq d) : (⟨k0_dev13 d, k0_dev13_lt d⟩ : Dev nD) = prv d)
  | 7 => (Fin.ext (k0_dev16_eq d) : (⟨k0_dev16 d, k0_dev16_lt d⟩ : Dev nD) = prv d)
  | 8 => (Fin.ext (k0_dev17_eq d) : (⟨k0_dev17 d, k0_dev17_lt d⟩ : Dev nD) = prv d)
  | 9 => (Fin.ext (k0_dev20_eq d) : (⟨k0_dev20 d, k0_dev20_lt d⟩ : Dev nD) = prv d)
  | 10 => (Fin.ext (k0_dev21_eq d) : (⟨k0_dev21 d, k0_dev21_lt d⟩ : Dev nD) = prv d)
  | 11 => (Fin.ext (k0_dev24_eq d) : (⟨k0_dev24 d, k0_dev24_lt d⟩ : Dev nD) = prv d)
  | 12 => (Fin.ext (k0_dev25_eq d) : (⟨k0_dev25 d, k0_dev25_lt d⟩ : Dev nD) = prv d)
  | 13 => (Fin.ext (k0_dev28_eq d) : (⟨k0_dev28 d, k0_dev28_lt d⟩ : Dev nD) = prv d)
  | 14 => (Fin.ext (k0_dev29_eq d) : (⟨k0_dev29 d, k0_dev29_lt d⟩ : Dev nD) = prv d)
  | _ + 15 => rfl

theorem devL_eq : devL = fun d _ => prv d := funext fun d => funext fun k => devL_at d k

/-- The printed body is the program of steps, between ring neighbours. -/
theorem body_eq (arg0 : Memref sig .tc .vmem S1024x512 .bf16) (h0 : arg0.IsWhole)
    (arg1 : Memref sig .tc .vmem S512x64 .bf16) (h1 : arg1.IsWhole) (arg2 : Memref sig .tc .vmem S1024x1 .i32)
    (h2 : arg2.IsWhole) (arg3 : Memref sig .tc .vmem S4x512x1024 .bf16) (h3 : arg3.IsWhole)
    (arg4 : Memref sig .tc .vmem S512x1024 .bf16) (h4 : arg4.IsWhole) (arg5 : Memref sig .tc .vmem S1024x1024 .f32)
    (h5 : arg5.IsWhole) :
    cc0_body (F := F) arg0 h0 arg1 h1 arg2 h2 arg3 h3 arg4 h4 arg5 h5 (comm true) (hcomm true) (comm false) (hcomm false) xc hxc cc0_scratch3 cc0_scratch4
      cc0_scratch5 cc0_scratch6 cc0_scratch7 cc0_scratch8 =
    prog arg0 arg1 arg2 arg3 arg4 arg5 (fun d _ => nxt d) (fun d _ => prv d) := by
  rw [body_eq_raw, devR_eq, devL_eq]

end Cert.KernelIdeal.Moe
-- ==== Proof.KernelIdeal.Slots.lean ====
/- A ring buffer's slots as assertions: what a device holds of a slot, its two half shares, a load, a store and a
   landing copy, and the whole buffer as its two slots. -/
module

public import proofs.«01_k».proof.Proof.KernelIdeal.Prog
public import Idealize.ShloMosaic.Lib.Release
public import Idealize.ShloMosaic.Lib.ViewIndex
public import Idealize.ShloMosaic.Lib.Pipeline.Launch
public import Idealize.ShloMosaic.Lib.Pipeline.Kit
public import Idealize.ShloMosaic.Lib.Tactic

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's type -/

/-- A slot that its reader releases to its writer: the reading device, the side, the slot. -/
abbrev Key : Type := Dev nD × Bool × Bool
abbrev UB : Type := URounds (GSem nD τ sig) ℕ × Release.USlots Key
abbrev UU : Type := UR sig nD τ × UB

/-- The assertions of this proof. -/
abbrev MM (F : FTy → Type) : Type := MT nD τ sig ℕ (Elt F) ℕ UU ℕ

abbrev EP : Emb (UR sig nD τ) (MM F) := embL
abbrev ER : Emb (URounds (GSem nD τ sig) ℕ) (MM F) := Emb.inl.trans embR
abbrev EK : Emb (Release.USlots Key) (MM F) := Emb.inr.trans embR

/-! ## Neighbours -/

/-- The neighbour a side sends to, and the one it hears from. -/
def fwd : Bool → Dev nD → Dev nD
  | true => nxt
  | false => prv
def bwd : Bool → Dev nD → Dev nD
  | true => prv
  | false => nxt

theorem prv_nxt (c : Dev nD) : prv (nxt c) = c := by revert c; decide
theorem nxt_prv (c : Dev nD) : nxt (prv c) = c := by revert c; decide
theorem bwd_fwd : ∀ (X : Bool) (c : Dev nD), bwd X (fwd X c) = c
  | true, c => prv_nxt c
  | false, c => nxt_prv c
theorem fwd_bwd : ∀ (X : Bool) (c : Dev nD), fwd X (bwd X c) = c
  | true, c => nxt_prv c
  | false, c => prv_nxt c

/-! ## Slots -/

/-- Slot `n % 2` of a side's ring buffer as loads and stores name it. -/
abbrev acc (X : Bool) (n : ℕ) : View sig .tc .vmem S1x2048x1024 .fp8e4m3 := (comm X).access (slotRect n)

theorem slot_view (X : Bool) (n : ℕ) :
    (slot (comm X) n).view = (acc X n).reshape S2048x1024 squeezes_S1x2048x1024_S2048x1024.numel_eq := rfl

/-- The elements of a slot. -/
abbrev slotSet (X : Bool) (n : ℕ) : Finset (comm X).view.ty.Idx := (acc X n).set

theorem slot_set (X : Bool) (n : ℕ) : (slot (comm X) n).view.set = slotSet X n := View.set_reshape _ _

theorem slotRect_congr {n m : ℕ} (h : n % 2 = m % 2) : slotRect n = slotRect m := by
  unfold slotRect; congr 2

theorem mem_slotRect {n : ℕ} {i : S2x2048x1024.Idx} : i ∈ (slotRect n).set ↔ (i 0).val = n % 2 := by
  rw [Rect.mem_set_unit]
  constructor
  · intro h
    have h0 := h 0
    simp only [Matrix.cons_val_zero] at h0
    have : S1x2048x1024.size 0 = 1 := rfl
    omega
  · intro h a
    have ha := (i a).isLt
    have e : ∀ a : Fin 3, a ≠ 0 → S1x2048x1024.size a = S2x2048x1024.size a := by decide
    have z : ∀ a : Fin 3, a ≠ 0 → (![n % 2, 0, 0] : Fin 3 → ℕ) a = 0 := by
      intro a ha; fin_cases a <;> first | rfl | exact absurd rfl ha
    by_cases h0 : a = 0
    · subst h0
      have : S1x2048x1024.size 0 = 1 := rfl
      have e0 : (![n % 2, 0, 0] : Fin 3 → ℕ) 0 = n % 2 := rfl
      exact ⟨by rw [e0]; omega, by rw [e0, this]; omega⟩
    · exact ⟨by rw [z a h0]; exact Nat.zero_le _, by rw [z a h0, e a h0, Nat.zero_add]; exact ha⟩

theorem slotRect_disjoint (n : ℕ) : Disjoint (slotRect n).set (slotRect (n + 1)).set := by
  rw [Finset.disjoint_left]
  intro i h1 h2
  rw [mem_slotRect] at h1 h2
  omega

theorem slotRect_union : (slotRect 0).set ∪ (slotRect 1).set = Finset.univ := by
  ext i
  have hi : (i 0).val < 2 := (i 0).isLt
  simp only [Finset.mem_union, Finset.mem_univ, iff_true, mem_slotRect]
  omega

theorem acc_nonempty (X : Bool) (n : ℕ) : (slotSet X n).Nonempty :=
  ⟨(acc X n).emb (fun a => ⟨0, by fin_cases a <;> decide⟩), Finset.mem_map.mpr ⟨_, Finset.mem_univ _, rfl⟩⟩

theorem acc_set_congr (X : Bool) {n m : ℕ} (h : n % 2 = m % 2) : slotSet X n = slotSet X m := by
  show ((comm X).view.slice (slotRect n)).set = ((comm X).view.slice (slotRect m)).set
  rw [View.set_slice, View.set_slice, slotRect_congr h]

theorem acc_disjoint (X : Bool) (n : ℕ) : Disjoint (slotSet X n) (slotSet X (n + 1)) :=
  View.disjoint_slice (slotRect_disjoint n)

theorem acc_union (X : Bool) : slotSet X 0 ∪ slotSet X 1 = Finset.univ := by
  cases X
  · show ((View.whole cc0_scratch1).slice (slotRect 0)).set ∪ ((View.whole cc0_scratch1).slice (slotRect 1)).set = Finset.univ
    rw [View.set_slice_whole, View.set_slice_whole]; exact slotRect_union
  · show ((View.whole cc0_scratch0).slice (slotRect 0)).set ∪ ((View.whole cc0_scratch0).slice (slotRect 1)).set = Finset.univ
    rw [View.set_slice_whole, View.set_slice_whole]; exact slotRect_union

/-! ## What a device holds of a slot -/

/-- Device `c` holds a share of slot `n % 2` of a side's ring buffer, with block `w` in it. -/
def holds (c : Dev nD) (X : Bool) (n : ℕ) (q : PosShare TreeShare) (w : Vec F S1x2048x1024 .fp8e4m3) : sProp (MM F) :=
  iprop(∃ f : Buf (Elt F) ((comm X).view.loc (c : Thread nD τ)), ⌜(acc X n).read (Elt F) f = w⌝
    ∗ ((comm X).view.loc (c : Thread nD τ) ↦[slotSet X n]{q} f))

/-- Device `c` holds the slot, whatever is in it. -/
abbrev free (c : Dev nD) (X : Bool) (n : ℕ) : sProp (MM F) :=
  Release.slot ((comm X).view.loc (c : Thread nD τ)) (slotSet X n)

instance holds_storable (c : Dev nD) (X : Bool) (n : ℕ) (q) (w : Vec F S1x2048x1024 .fp8e4m3) :
    BI.Storable (upEmb : UEmb _ (MM F)) (holds c X n q w) := by unfold holds; infer_instance

theorem holds_congr (c : Dev nD) (X : Bool) {n m : ℕ} (h : n % 2 = m % 2) (q) (w : Vec F S1x2048x1024 .fp8e4m3) :
    holds c X n q w = holds c X m q w := by
  unfold holds slotSet acc slotRect
  generalize slot_inb n = p
  revert p
  rw [h]
  intro p
  rfl

theorem free_congr (c : Dev nD) (X : Bool) {n m : ℕ} (h : n % 2 = m % 2) : (free c X n : sProp (MM F)) = free c X m := by
  unfold free; rw [acc_set_congr X h]

theorem holds_free (c : Dev nD) (X : Bool) (n : ℕ) (w : Vec F S1x2048x1024 .fp8e4m3) : holds c X n fullShare w ⊢ free c X n := by
  unfold holds free Release.slot
  iintro ⟨%f, -, H⟩
  iexists f; iexact H

theorem holds_split (c : Dev nD) (X : Bool) (n : ℕ) (w : Vec F S1x2048x1024 .fp8e4m3) :
    holds c X n fullShare w ⊢ iprop(holds c X n fullShare.left w ∗ holds c X n fullShare.right w) := by
  unfold holds
  iintro ⟨%f, %h, H⟩
  ihave H := (pointsTo_share (PosShare.mem_left_op_right fullShare)).1 $$ H
  icases H with ⟨H1, H2⟩
  isplitl [H1]
  · iexists f; isplitr; · ipureintro; exact h
    iexact H1
  · iexists f; isplitr; · ipureintro; exact h
    iexact H2

theorem holds_join (c : Dev nD) (X : Bool) (n : ℕ) (w : Vec F S1x2048x1024 .fp8e4m3) :
    iprop(holds c X n fullShare.left w ∗ holds c X n fullShare.right w) ⊢ holds c X n fullShare w := by
  unfold holds
  iintro ⟨⟨%f, %h, H1⟩, ⟨%g, %h', H2⟩⟩
  have e : ∀ i ∈ slotSet X n, g i = f i := by
    intro i hi
    obtain ⟨x, -, rfl⟩ := Finset.mem_map.mp hi
    exact View.eq_of_read_eq (congrFun (h'.trans h.symm) x)
  ihave H2 := (Entails.of_eq (pointsTo_congr e)) $$ H2
  iexists f
  isplitr; · ipureintro; exact h
  iapply (pointsTo_share (PosShare.mem_left_op_right fullShare)).2
  isplitl [H1] <;> iassumption

/-- A ring buffer whole is its two slots. -/
theorem whole_split (c : Dev nD) (X : Bool) (f : Buf (Elt F) ((comm X).view.loc (c : Thread nD τ))) :
    ((comm X).view.loc (c : Thread nD τ) ↦{fullShare} f) ⊢ iprop(free c X 0 ∗ free (F := F) c X 1) := by
  have h : (((comm X).view.loc (c : Thread nD τ) ↦{fullShare} f) : sProp (MM F))
      = ((comm X).view.loc (c : Thread nD τ) ↦[slotSet X 0 ∪ slotSet X 1]{fullShare} f) := by rw [acc_union]
  rw [h]
  refine (pointsTo_union (acc_disjoint X 0)).1.trans ?_
  unfold free Release.slot
  iintro ⟨H1, H2⟩
  isplitl [H1]
  · iexists f; iexact H1
  · iexists f; iexact H2

theorem whole_join (c : Dev nD) (X : Bool) :
    iprop(free c X 0 ∗ free (F := F) c X 1) ⊢ iprop(∃ f, ((comm X).view.loc (c : Thread nD τ) ↦{fullShare} f)) := by
  unfold free Release.slot
  iintro ⟨⟨%f, H1⟩, ⟨%g, H2⟩⟩
  iexists ((slotSet X 1).piecewise g f)
  have h : ((((comm X).view.loc (c : Thread nD τ) ↦{fullShare} ((slotSet X 1).piecewise g f))) : sProp (MM F))
      = ((comm X).view.loc (c : Thread nD τ) ↦[slotSet X 0 ∪ slotSet X 1]{fullShare} ((slotSet X 1).piecewise g f)) := by
    rw [acc_union]
  iapply (Entails.of_eq h.symm)
  iapply (pointsTo_join (acc_disjoint X 0))
  isplitl [H1] <;> iassumption

theorem free_free_false (c : Dev nD) (X : Bool) (n : ℕ) : iprop(free c X n ∗ free (F := F) c X n) ⊢ (False : sProp (MM F)) :=
  Release.slot_slot_false (acc_nonempty X n)

end Cert.KernelIdeal.Moe
-- ==== Proof.KernelIdeal.Proto.lean ====
/- The protocol: the cells of a device, and for each of its rounds who pays what and which resources come with it; what
   each device owes; the order of waits. -/
module

public import proofs.«01_k».proof.Proof.KernelIdeal.Slots

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Cells -/

/-- A side's cell: its credits (`none`), or the copies from slot `b` as they leave (`some (false, b)`), or those into slot
    `b` as they land (`some (true, b)`). -/
abbrev RK : Type := Bool × Option (Bool × Bool)
/-- A device's cells: the barrier, and the sides'. -/
abbrev CK : Type := Option RK

/-- The parity of a round, as a slot. -/
def par (n : ℕ) : Bool := decide (n % 2 = 1)
/-- The slot of a parity. -/
def ofPar (b : Bool) : ℕ := if b then 1 else 0

theorem par_ofPar (b : Bool) : par (ofPar b) = b := by cases b <;> rfl
theorem ofPar_par' (n : ℕ) : ofPar (par n) = n % 2 := by
  unfold ofPar par
  by_cases h : n % 2 = 1
  · simp [h]
  · simp [h]; omega
theorem ofPar_par (n : ℕ) : ofPar (par n) % 2 = n % 2 := by rw [ofPar_par']; omega
theorem par_succ (n : ℕ) : par (n + 1) = !par n := by
  unfold par
  by_cases h : n % 2 = 1
  · have h' : ¬ (n + 1) % 2 = 1 := by omega
    simp [h, h']
  · have h' : (n + 1) % 2 = 1 := by omega
    simp [h, h']

/-- The semaphore of a cell. -/
def sm : CK → SemLoc sig
  | none => .reg barSem
  | some (X, none) => .reg (rdy X)
  | some (X, some (false, b)) => .dma (sem2 (semS X) (ofPar b))
  | some (X, some (true, b)) => .dma (sem2 (semV X) (ofPar b))

theorem sm_inj : Function.Injective sm := by unfold Function.Injective; decide

/-- Which cell a semaphore is. -/
def kind (s : SemLoc sig) : Option CK :=
  (([none] : List CK) ++ ([true, false].flatMap fun X => [some (X, none), some (X, some (false, false)), some (X, some (false, true)),
    some (X, some (true, false)), some (X, some (true, true))])).find? fun k => sm k = s

theorem kind_sm : ∀ k : CK, kind (sm k) = some k := by decide

theorem sem2_congr (a : DmaSems sig S2) {n m : ℕ} (h : n % 2 = m % 2) : sem2 a n = sem2 a m := by
  unfold sem2
  generalize sem_inb n = p
  revert p
  rw [h]
  intro p
  rfl

theorem sem2_par (a : DmaSems sig S2) (n : ℕ) : sem2 a n = sem2 a (ofPar (par n)) := sem2_congr a (ofPar_par n).symm

/-- The cells by name: of the barrier, of a side's credits, of the copy of round `n` as it leaves, of the landings into slot
    `n % 2`. -/
abbrev kBar : CK := none
abbrev kRdy (X : Bool) : CK := some (X, none)
abbrev kSnd (X : Bool) (n : ℕ) : CK := some (X, some (false, par n))
abbrev kRcv (X : Bool) (n : ℕ) : CK := some (X, some (true, par n))

abbrev cell (c : Dev nD) (k : CK) : GSem nD τ sig := ((c : Thread nD τ), sm k)

theorem sm_snd (X : Bool) (n : ℕ) : sm (kSnd X n) = .dma (sem2 (semS X) n) := by rw [sem2_par (semS X) n]; rfl
theorem sm_rcv (X : Bool) (n : ℕ) : sm (kRcv X n) = .dma (sem2 (semV X) n) := by rw [sem2_par (semV X) n]; rfl

theorem cell_inj {c c' : Dev nD} {k k' : CK} (h : cell c k = cell c' k') : c = c' ∧ k = k' :=
  ⟨Fin.ext (congrArg (fun g : GSem nD τ sig => g.1.1.val) h), sm_inj (congrArg Prod.snd h)⟩

/-- The rounds in which a side sends. -/
def len : Bool → ℕ
  | true => 8
  | false => 7

/-- The size of a slot, as the copies count it. -/
@[irreducible] def N : ℕ := (slot (comm true) 0).view.dmaCredit
theorem N_eq : ∀ (X : Bool) (n : ℕ), (slot (comm X) n).view.dmaCredit = N := by
  intro X n; unfold N; cases X <;> rfl
theorem N_pos : 0 < N := by
  unfold N; exact View.dmaCredit_pos _ (by decide)

/-! ## Contents -/

variable (m : (ℓ : Loc nD τ sig) → Buf (Elt F) ℓ)

def stg0 (c : Dev nD) : (cc0_stg0_0 : Ref sig .tc).ty.Contents (Elt F) :=
  (win0_0.blk (0 : Fin 1)).view.read (Elt F) (m ((c : Thread nD τ).loc main_arg0))
def stg1 (c : Dev nD) : (cc0_stg1_0 : Ref sig .tc).ty.Contents (Elt F) :=
  (win0_1.blk (0 : Fin 1)).view.read (Elt F) (m ((c : Thread nD τ).loc main_arg1))
def stg2 (c : Dev nD) : (cc0_stg2_0 : Ref sig .tc).ty.Contents (Elt F) :=
  (win0_2.blk (0 : Fin 1)).view.read (Elt F) (m ((c : Thread nD τ).loc main_arg2))
def stg3 (c : Dev nD) : (cc0_stg3_0 : Ref sig .tc).ty.Contents (Elt F) :=
  (win0_3.blk (0 : Fin 1)).view.read (Elt F) (m ((c : Thread nD τ).loc main_arg3))
def stg4 (c : Dev nD) : (cc0_stg4_0 : Ref sig .tc).ty.Contents (Elt F) :=
  (win0_4.blk (0 : Fin 1)).view.read (Elt F) (m ((c : Thread nD τ).loc main_arg4))

/-- A device's own block, as it goes round the rings. -/
def block (c : Dev nD) : Vec F S1x2048x1024 .fp8e4m3 := k0_pay3 (stg3 m c)

/-- The device whose block a side holds in round `r`. -/
def own (X : Bool) (c : Dev nD) (r : ℕ) : Dev nD := (bwd X)^[r] c
theorem own_fwd (X : Bool) (c : Dev nD) (r : ℕ) : own X (fwd X c) (r + 1) = own X c r := by
  unfold own; rw [Function.iterate_succ_apply, bwd_fwd]

/-! ## What the payloads carry -/

/-- What device `c` must know to copy in round `r` into slot `(r + 1) % 2` of its neighbour `e`: the slot is released for
    this copy, and the landing cell has come to this copy's round. -/
def fact (e : Dev nD) (X : Bool) (r : ℕ) : sProp (MM F) :=
  iprop(Release.released EK (e, X, par (r + 1)) (r / 2 + 1) ∗ reached ER (cell e (kRcv X (r + 1))) (r / 2))
/-- All the facts up to round `r`. -/
def facts (e : Dev nD) (X : Bool) : ℕ → sProp (MM F)
  | 0 => fact e X 0
  | r + 1 => iprop(facts e X r ∗ fact e X (r + 1))

instance fact_persistent (e : Dev nD) (X : Bool) (r : ℕ) : BI.Persistent (fact (F := F) e X r) := by unfold fact; infer_instance
instance fact_storable (e : Dev nD) (X : Bool) (r : ℕ) : BI.Storable (upEmb : UEmb _ (MM F)) (fact (F := F) e X r) := by
  unfold fact; infer_instance
instance facts_persistent (e : Dev nD) (X : Bool) : ∀ r, BI.Persistent (facts (F := F) e X r)
  | 0 => fact_persistent e X 0
  | r + 1 => by
    have := facts_persistent e X r
    unfold facts; infer_instance
instance facts_storable (e : Dev nD) (X : Bool) : ∀ r, BI.Storable (upEmb : UEmb _ (MM F)) (facts (F := F) e X r)
  | 0 => fact_storable e X 0
  | r + 1 => by
    have := facts_storable e X r
    unfold facts; infer_instance

theorem facts_elim (e : Dev nD) (X : Bool) {r n : ℕ} (h : r ≤ n) : facts e X n ⊢ (fact e X r : sProp (MM F)) := by
  induction n with
  | zero => rw [Nat.le_zero.mp h]; exact .rfl
  | succ n ih =>
    unfold facts
    rcases Nat.lt_or_eq_of_le h with h | rfl
    · iintro ⟨H, -⟩
      iapply (ih (Nat.lt_succ_iff.mp h)); iexact H
    · iintro ⟨-, H⟩; iexact H

/-! ## The schedule -/

/-- The duties of a cell's round: a copy each, two signals of the handshake, a credit for each round that reuses a slot. -/
def dutiesK : CK → ℕ → Finset ℕ
  | none, r => if r = 0 then {0, 1} else ∅
  | some (X, none), r => if r = 0 then Finset.range (len X - 1) else ∅
  | some (X, some (false, b)), k => if 2 * k + ofPar b < len X then {0} else ∅
  | some (X, some (true, b)), k => if 2 * k + ofPar (!b) < len X then {0} else ∅

def amountK : CK → ℕ
  | some (_, some _) => N
  | _ => 1

theorem amountK_copy (X : Bool) (q : Bool × Bool) : amountK (some (X, some q)) = N := rfl

def payloadK (c : Dev nD) : CK → ℕ → ℕ → sProp (MM F)
  | none, _, d => fact (fwd (d == 1) c) (d == 1) 0
  | some (X, none), _, j => facts (fwd X c) X (j + 1)
  | some (X, some (false, b)), k, _ => holds c X (ofPar b) fullShare.left (block m (own X c (2 * k + ofPar b)))
  | some (X, some (true, b)), k, _ => holds c X (ofPar b) fullShare (block m (own X c (2 * k + ofPar (!b) + 1)))

instance payloadK_storable (c : Dev nD) : ∀ (k : CK) (r d : ℕ), BI.Storable (upEmb : UEmb _ (MM F)) (payloadK m c k r d)
  | none, _, _ => by unfold payloadK; infer_instance
  | some (_, none), _, _ => by unfold payloadK; infer_instance
  | some (_, some (false, _)), _, _ => by unfold payloadK; infer_instance
  | some (_, some (true, _)), _, _ => by unfold payloadK; infer_instance

theorem amountK_pos : ∀ k, 0 < amountK k
  | none => Nat.one_pos
  | some (_, none) => Nat.one_pos
  | some (_, some _) => N_pos

/-- The schedule of every cell. -/
def Rd : Rounds.Schedule (GSem nD τ sig) ℕ (MM F) where
  duties g r := match kind g.2 with
    | some k => dutiesK k r
    | none => ∅
  unitless _ := False
  amount g _ _ := match kind g.2 with
    | some k => amountK k
    | none => 1
  payload g r d := match kind g.2 with
    | some k => payloadK m g.1.1 k r d
    | none => iprop(emp)
  amount_pos g _ _ _ := by
    split
    · exact amountK_pos _
    · exact Nat.one_pos

instance Rd_payload_storable (g : GSem nD τ sig) (r d : ℕ) : BI.Storable (upEmb : UEmb _ (MM F)) ((Rd m).payload g r d) := by
  dsimp only [Rd]
  split <;> infer_instance

theorem duties_cell (c : Dev nD) (k : CK) (r : ℕ) : (Rd m).duties (cell c k) r = dutiesK k r := by
  dsimp only [Rd]; rw [kind_sm]
theorem amount_cell (c : Dev nD) (k : CK) (r d : ℕ) : (Rd m).amount (cell c k) r d = amountK k := by
  dsimp only [Rd]; rw [kind_sm]
theorem payload_cell (c : Dev nD) (k : CK) (r d : ℕ) : (Rd m).payload (cell c k) r d = payloadK m c k r d := by
  dsimp only [Rd]; rw [kind_sm]

theorem expect_cell (c : Dev nD) (k : CK) (r : ℕ) : (Rd m).expect (cell c k) r = (dutiesK k r).card * amountK k := by
  unfold Schedule.expect Schedule.amountOf
  rw [duties_cell, Finset.sum_congr rfl fun d _ => amount_cell m c k r d, Finset.sum_const, smul_eq_mul]

theorem half (r : ℕ) : 2 * (r / 2) + ofPar (par r) = r := by
  rw [ofPar_par']; omega
theorem half' (r : ℕ) : 2 * (r / 2) + ofPar (!par (r + 1)) = r := by rw [par_succ, Bool.not_not]; exact half r

theorem duties_snd (c : Dev nD) (X : Bool) {r : ℕ} (h : r < len X) : (Rd m).duties (cell c (kSnd X r)) (r / 2) = {0} := by
  rw [duties_cell]; dsimp only [dutiesK]; rw [half, if_pos h]
theorem duties_rcv (c : Dev nD) (X : Bool) {r : ℕ} (h : r < len X) : (Rd m).duties (cell c (kRcv X (r + 1))) (r / 2) = {0} := by
  rw [duties_cell]; dsimp only [dutiesK]; rw [half', if_pos h]
theorem duties_rdy (c : Dev nD) (X : Bool) : (Rd m).duties (cell c (kRdy X)) 0 = Finset.range (len X - 1) := by
  rw [duties_cell]; rfl
theorem duties_bar (c : Dev nD) : (Rd m).duties (cell c kBar) 0 = {0, 1} := by rw [duties_cell]; rfl

theorem payload_snd (c : Dev nD) (X : Bool) (r d : ℕ) :
    (Rd m).payload (cell c (kSnd X r)) (r / 2) d = holds c X r fullShare.left (block m (own X c r)) := by
  rw [payload_cell]; dsimp only [payloadK]; rw [half]; exact holds_congr c X (ofPar_par r) _ _
theorem payload_rcv (c : Dev nD) (X : Bool) (r d : ℕ) :
    (Rd m).payload (cell c (kRcv X (r + 1))) (r / 2) d = holds c X (r + 1) fullShare (block m (own X c (r + 1))) := by
  rw [payload_cell]; dsimp only [payloadK]; rw [half']; exact holds_congr c X (ofPar_par (r + 1)) _ _
theorem payload_rdy (c : Dev nD) (X : Bool) (j : ℕ) : (Rd m).payload (cell c (kRdy X)) 0 j = facts (fwd X c) X (j + 1) := by
  rw [payload_cell]; rfl
theorem payload_bar (c : Dev nD) (d : ℕ) : (Rd m).payload (cell c kBar) 0 d = fact (fwd (d == 1) c) (d == 1) 0 := by
  rw [payload_cell]; rfl

/-- A cell's duties are over after its last round. -/
theorem duties_later (c : Dev nD) : ∀ (k : CK) (r : ℕ), (match k with
    | none => 1
    | some (_, none) => 1
    | some (X, some (false, b)) => if X || !b then 4 else 3
    | some (X, some (true, b)) => if X || b then 4 else 3) ≤ r → (Rd m).duties (cell c k) r = ∅ := by
  intro k r h
  rw [duties_cell]
  rcases k with _ | ⟨X, _ | ⟨s, b⟩⟩
  · exact if_neg (by simp at h; omega)
  · exact if_neg (by simp at h; omega)
  · cases X <;> cases s <;> cases b <;> (refine if_neg ?_; simp [ofPar, len] at h ⊢; omega)

/-! ## What a device owes, and the order of waits -/

/-- The copies a side still has to send, from round `a`. -/
def owedS (X : Bool) (c : Dev nD) (a : ℕ) : CellTallies nD τ sig ℕ :=
  ∑ r ∈ Finset.Ico a (len X), tallyAt (cell (fwd X c) (kRcv X (r + 1))) r N
/-- The credits a side still has to give, from round `p`. -/
def owedR (X : Bool) (c : Dev nD) (p : ℕ) : CellTallies nD τ sig ℕ :=
  ∑ j ∈ Finset.Ico p (len X - 1), tallyAt (cell (bwd X c) (kRdy X)) j 1
/-- What a device owes from given rounds on. -/
def owed (c : Dev nD) (a b p q : ℕ) : CellTallies nD τ sig ℕ :=
  owedS true c a + owedS false c b + owedR true c p + owedR false c q
/-- What it owes when it starts: the two signals of the handshake besides. -/
def O₀ (c : Dev nD) : CellTallies nD τ sig ℕ :=
  owed c 0 0 0 0 + tallyAt (cell (nxt c) kBar) 0 1 + tallyAt (cell (prv c) kBar) 0 1

theorem ico_step {a n : ℕ} (h : a < n) : Finset.Ico a n = insert a (Finset.Ico (a + 1) n) := by
  ext x; simp only [Finset.mem_insert, Finset.mem_Ico]; omega

theorem owedS_step (X : Bool) (c : Dev nD) {a : ℕ} (h : a < len X) :
    owedS X c a = owedS X c (a + 1) + tallyAt (cell (fwd X c) (kRcv X (a + 1))) a N := by
  unfold owedS; rw [ico_step h, Finset.sum_insert (by simp), add_comm]
theorem owedR_step (X : Bool) (c : Dev nD) {p : ℕ} (h : p < len X - 1) :
    owedR X c p = owedR X c (p + 1) + tallyAt (cell (bwd X c) (kRdy X)) p 1 := by
  unfold owedR; rw [ico_step h, Finset.sum_insert (by simp), add_comm]

/-- The wait indices of a cell: the rounds. -/
@[irreducible] def L (g : GSem nD τ sig) : Finset ℕ := if g.1.2 = .tc then Finset.range 16 else ∅
/-- The order: a wait of round `r` for a landing at `3 r + 3`, for the credit of round `r` at `3 r + 5`. -/
@[irreducible] def lv (g : GSem nD τ sig) (ι : ℕ) : ℕ := match kind g.2 with
  | some none => 1
  | some (some (_, none)) => 3 * ι + 5
  | some (some (_, some (true, _))) => 3 * ι + 3
  | _ => 0

/-- The order stands. -/
@[irreducible] def levs : sProp (MM F) := levAts L lv
theorem levs_eq : (levs : sProp (MM F)) = levAts L lv := by unfold levs; rfl
instance levs_persistent : BI.Persistent (levs : sProp (MM F)) := by rw [levs_eq]; infer_instance

theorem L_of_ne (g : GSem nD τ sig) (h : g.1.2 ≠ .tc) : L g = ∅ := by unfold L; exact if_neg h
theorem L_cell (c : Dev nD) (s : SemLoc sig) : L ((c : Thread nD τ), s) = Finset.range 16 := by unfold L; exact if_pos rfl
theorem lv_cell (c : Dev nD) (k : CK) (ι : ℕ) : lv (cell c k) ι = match k with
  | none => 1
  | some (_, none) => 3 * ι + 5
  | some (_, some (true, _)) => 3 * ι + 3
  | some (_, some (false, _)) => 0 := by
  unfold lv; dsimp only; rw [kind_sm]
  rcases k with _ | ⟨X, _ | ⟨_ | _, b⟩⟩ <;> rfl

theorem sum_pos {ι : Type} {s : Finset ι} {f : ι → CellTallies nD τ sig ℕ} {g : GSem nD τ sig} {u : ℕ}
    (h : 0 < (∑ i ∈ s, f i) g u) : ∃ i ∈ s, 0 < f i g u := by
  classical
  induction s using Finset.induction_on with
  | empty => simp at h
  | insert a s ha ih =>
    rw [Finset.sum_insert ha, Pi.add_apply, Finsupp.add_apply] at h
    rcases Nat.eq_zero_or_pos (f a g u) with h0 | h0
    · rw [h0, Nat.zero_add] at h
      obtain ⟨i, hi, hp⟩ := ih h
      exact ⟨i, Finset.mem_insert_of_mem hi, hp⟩
    · exact ⟨a, Finset.mem_insert_self _ _, h0⟩

theorem tally_pos {g g' : GSem nD τ sig} {i u n : ℕ} (h : 0 < tallyAt (nD := nD) g i n g' u) : g' = g ∧ u = i := by
  rw [tallyAt_apply] at h
  by_contra hn
  rw [if_neg hn] at h
  exact Nat.lt_irrefl 0 h

theorem add_pos' {A B : CellTallies nD τ sig ℕ} {g : GSem nD τ sig} {u : ℕ} (h : 0 < (A + B) g u) : 0 < A g u ∨ 0 < B g u := by
  rw [Pi.add_apply, Finsupp.add_apply] at h; omega

/-- A device owes, at its place in the order, only what is above. -/
theorem owed_above (c : Dev nD) {a b p q n : ℕ} (ha : n < 3 * a + 3) (hb : n < 3 * b + 3) (hp : n < 3 * p + 5) (hq : n < 3 * q + 5)
    {g : GSem nD τ sig} {u : ℕ} (h : 0 < owed c a b p q g u) : u ∈ L g ∧ n < lv g u := by
  have hS : ∀ (X : Bool) (a : ℕ), n < 3 * a + 3 → 0 < owedS X c a g u → u ∈ L g ∧ n < lv g u := by
    intro X a ha h
    obtain ⟨r, hr, hp⟩ := sum_pos h
    obtain ⟨rfl, rfl⟩ := tally_pos hp
    rw [Finset.mem_Ico] at hr
    have hl : len X ≤ 8 := by cases X <;> decide
    refine ⟨by rw [L_cell, Finset.mem_range]; omega, ?_⟩
    rw [lv_cell]; dsimp only; omega
  have hR : ∀ (X : Bool) (p : ℕ), n < 3 * p + 5 → 0 < owedR X c p g u → u ∈ L g ∧ n < lv g u := by
    intro X p ha h
    obtain ⟨r, hr, hp⟩ := sum_pos h
    obtain ⟨rfl, rfl⟩ := tally_pos hp
    rw [Finset.mem_Ico] at hr
    have hl : len X ≤ 8 := by cases X <;> decide
    refine ⟨by rw [L_cell, Finset.mem_range]; omega, ?_⟩
    rw [lv_cell]; dsimp only; omega
  unfold owed at h
  rcases add_pos' h with h | h
  · rcases add_pos' h with h | h
    · rcases add_pos' h with h | h
      · exact hS _ _ ha h
      · exact hS _ _ hb h
    · exact hR _ _ hp h
  · exact hR _ _ hq h

/-- A device may wait on one of its cells when what it owes is above. -/
theorem mayWait (c : Dev nD) (k : CK) (ι : ℕ) (hι : ι < 16) {a b p q : ℕ} (ha : lv (cell c k) ι < 3 * a + 3)
    (hb : lv (cell c k) ι < 3 * b + 3) (hp : lv (cell c k) ι < 3 * p + 5) (hq : lv (cell c k) ι < 3 * q + 5) :
    (levs : sProp (MM F)) ⊢ MayWait (c : Thread nD τ) (sm k) ι (owed c a b p q) := by
  rw [levs_eq]
  exact MayOwe.of_cut (L := L) (lev := lv) (lv (cell c k) ι)
    (fun x hx => by rw [Finset.mem_singleton.mp hx, L_cell]; exact Finset.mem_range.mpr hι)
    (fun g u hg => (owed_above c ha hb hp hq hg).1)
    (fun x hx => by rw [Finset.mem_singleton.mp hx])
    (fun g u hg => (owed_above c ha hb hp hq hg).2)

/-- The staging cells are waited on below everything owed. -/
theorem mayWait_stage (c : Dev nD) (q : DmaSem sig) (hq : kind (.dma q) = none) (O : CellTallies nD τ sig ℕ) (hO : O = O₀ c ∨ O = 0) :
    (levs : sProp (MM F)) ⊢ MayWait (c : Thread nD τ) (.dma q) 0 O := by
  rw [levs_eq]
  rcases hO with rfl | rfl
  · have key : ∀ g u, 0 < O₀ c g u → u ∈ L g ∧ 0 < lv g u := by
      intro g u h
      unfold O₀ at h
      rcases add_pos' h with h | h
      · rcases add_pos' h with h | h
        · exact owed_above c (by omega) (by omega) (by omega) (by omega) h
        · obtain ⟨rfl, rfl⟩ := tally_pos h
          exact ⟨by rw [L_cell]; decide, by rw [lv_cell]; decide⟩
      · obtain ⟨rfl, rfl⟩ := tally_pos h
        exact ⟨by rw [L_cell]; decide, by rw [lv_cell]; decide⟩
    refine MayOwe.of_cut (L := L) (lev := lv) 0 (fun p hp => by rw [Finset.mem_singleton.mp hp, L_cell]; exact Finset.mem_range.mpr (by omega))
      (fun g u hg => (key g u hg).1) (fun p hp => by rw [Finset.mem_singleton.mp hp]; unfold lv; dsimp only; rw [hq])
      (fun g u hg => (key g u hg).2)
  · rw [MayWait_zero]; iintro -; iempintro

end Cert.KernelIdeal.Moe
-- ==== Proof.KernelIdeal.Steps.lean ====
/- The steps that talk to the neighbours: a copy, the wait for it to leave, the wait for one to land, a credit given and a
   credit waited for, the handshake. Each is said once, for either side and any round. -/
module

public import proofs.«01_k».proof.Proof.KernelIdeal.Proto

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × CK → ℕ) (KS : Key → ℕ)

/-! ## What every device knows -/

/-- Every cell and every slot has its invariant, and the order of waits stands. -/
def recs : sProp (MM F) :=
  iprop(bigSep Finset.univ (fun p : Dev nD × CK => cellInv ER (Rd m) (K p) (cell p.1 p.2))
    ∗ bigSep Finset.univ (fun k : Key => Release.slotInv EK (KS k) k (free k.1 k.2.1 (ofPar k.2.2)))
    ∗ levs)

instance recs_persistent : BI.Persistent (recs m K KS) := by unfold recs; infer_instance

theorem recs_cell (c : Dev nD) (k : CK) : recs m K KS ⊢ cellInv ER (Rd m) (K (c, k)) (cell c k) := by
  unfold recs
  iintro ⟨H, -, -⟩
  have h : bigSep Finset.univ (fun p : Dev nD × CK => cellInv ER (Rd m) (K p) (cell p.1 p.2))
      ⊢ cellInv ER (Rd m) (K (c, k)) (cell c k) := bigSep_elim (Finset.mem_univ (c, k))
  iapply h
  iexact H
theorem recs_slot (c : Dev nD) (X b : Bool) :
    recs m K KS ⊢ Release.slotInv EK (KS (c, X, b)) (c, X, b) (free c X (ofPar b)) := by
  unfold recs
  iintro ⟨-, H, -⟩
  have h : bigSep Finset.univ (fun k : Key => Release.slotInv EK (KS k) k (free (F := F) k.1 k.2.1 (ofPar k.2.2)))
      ⊢ Release.slotInv EK (KS (c, X, b)) (c, X, b) (free c X (ofPar b)) := bigSep_elim (Finset.mem_univ (c, X, b))
  iapply h
  iexact H
theorem recs_lev : recs m K KS ⊢ (levs : sProp (MM F)) := by
  unfold recs
  iintro ⟨-, -, H⟩; iexact H

/-- The kernel makes no calls. -/
abbrev 𝒱₀ : Variants := Variants.none

/-- A device's debts. -/
def owesE (c : Dev nD) (O : CellTallies nD τ sig ℕ) : sProp (MM F) := iprop(∃ W, owes (c : Thread nD τ) O W)

abbrev WP (c : Dev nD) {α : Type} (p : Pr F α) (Q : α → sProp (MM F)) : sProp (MM F) :=
  wp frame (wpE (defs₀ (F := F)) 𝒱₀ (c : Thread nD τ) none) Set.univ p Q

theorem WP_bind (c : Dev nD) {α β : Type} (p : Pr F α) (k : α → Pr F β) (Q : β → sProp (MM F)) :
    WP c (p >>= k) Q = WP c p (fun a => WP c (k a) Q) :=
  wp_bind _ _ _ p k Q

/-! ## A device's place -/

/-- What round `r` of a side is sent with. -/
def stock (c : Dev nD) (X : Bool) (r : ℕ) : sProp (MM F) :=
  iprop(dutyTok ER (cell c (kSnd X r)) (r / 2) 0 ∗ dutyTok ER (cell (fwd X c) (kRcv X (r + 1))) (r / 2) 0
    ∗ Release.writeTok EK (fwd X c, X, par (r + 1)) (r / 2 + 1))
/-- The credit to wait with for round `r`'s landing. -/
def rcred (c : Dev nD) (X : Bool) (r : ℕ) : sProp (MM F) := cred (tallyAt (cell c (kRcv X (r + 1))) r N)
/-- The reader's place on slot `n % 2`, on its landing cell before round `n` of the side, on its sending cell. -/
def ra (c : Dev nD) (X : Bool) (n : ℕ) : sProp (MM F) := Release.readerAt EK (c, X, par n) ((n + 1) / 2)
def av (c : Dev nD) (X : Bool) (n : ℕ) : sProp (MM F) := atPos ER (cell c (kRcv X (n + 1))) (n / 2) ∅ 0
def aS (c : Dev nD) (X : Bool) (n : ℕ) : sProp (MM F) := atPos ER (cell c (kSnd X n)) (n / 2) ∅ 0
/-- The sending cell has come to round `n`; slot `n % 2`'s landing cell to the next copy after the one that brings block `n`. -/
def rs (c : Dev nD) (X : Bool) (n : ℕ) : sProp (MM F) := reached ER (cell c (kSnd X n)) (n / 2)
def rv (c : Dev nD) (X : Bool) (n : ℕ) : sProp (MM F) := reached ER (cell c (kRcv X n)) ((n + 1) / 2)

instance (c : Dev nD) (X : Bool) (n : ℕ) : BI.Persistent (rs (F := F) c X n) := by unfold rs; infer_instance
instance (c : Dev nD) (X : Bool) (n : ℕ) : BI.Persistent (rv (F := F) c X n) := by unfold rv; infer_instance

theorem par_two (r : ℕ) : par (r + 2) = par r := by rw [par_succ, par_succ, Bool.not_not]

/-! ## Copies -/

/-- A landed block is the block sent. -/
theorem landed (X : Bool) (c e : Dev nD) (n k : ℕ) (fs : Buf (Elt F) ((comm X).view.loc (c : Thread nD τ)))
    (fd : Buf (Elt F) ((comm X).view.loc (e : Thread nD τ))) (w : Vec F S1x2048x1024 .fp8e4m3)
    (h : (acc X n).read (Elt F) fs = w) :
    (acc X k).read (Elt F) ((slot (comm X) k).view.write (Elt F) fd ((slot (comm X) n).view.read (Elt F) fs) Finset.univ) = w := by
  rw [← h]
  have e := squeezes_S1x2048x1024_S2048x1024.numel_eq
  funext i
  obtain ⟨x, rfl⟩ := (Shape.reshapeEquiv e).surjective i
  exact View.read_write_reshape (acc X k) e fd ((slot (comm X) n).view.read (Elt F) fs) x

theorem land_holds (X : Bool) (c e : Dev nD) (n k : ℕ) (fs : Buf (Elt F) ((slot (comm X) n).view.loc (c : Thread nD τ)))
    (fd : Buf (Elt F) ((slot (comm X) k).view.loc (e : Thread nD τ))) (w : Vec F S1x2048x1024 .fp8e4m3)
    (h : (acc X n).read (Elt F) fs = w) :
    ((slot (comm X) k).view.loc (e : Thread nD τ) ↦[(slot (comm X) k).view.set]{fullShare}
      ((slot (comm X) k).view.write (Elt F) fd ((slot (comm X) n).view.read (Elt F) fs) Finset.univ))
      ⊢ holds e X k fullShare w := by
  have hl := landed X c e n k fs fd w h
  rw [slot_set]
  unfold holds
  cases X
  · iintro H
    iexists _
    isplitr
    · ipureintro; exact hl
    · iexact H
  · iintro H
    iexists _
    isplitr
    · ipureintro; exact hl
    · iexact H

/-- A copy: half of the slot goes with it, the peer's slot is taken, and the landing will hand over the block. -/
theorem send (c : Dev nD) (X : Bool) (r : ℕ) (hr : r < len X) (w : Vec F S1x2048x1024 .fp8e4m3) (hw : block m (own X c r) = w)
    {O₀ : CellTallies nD τ sig ℕ} (O : CellTallies nD τ sig ℕ)
    (hO : O₀ = O + tallyAt (cell (fwd X c) (kRcv X (r + 1))) r N) (Q : PUnit → sProp (MM F)) :
    iprop(recs m K KS ∗ holds c X r fullShare w ∗ stock c X r ∗ fact (fwd X c) X r ∗ rs c X r ∗ owesE c O₀)
      ⊢ iprop((holds c X r fullShare.right w ∗ cred (tallyAt (cell c (kSnd X r)) r N) ∗ owesE c O -∗ Q ⟨⟩)
        -∗ WP c (sendStep X r (fwd X c)) Q) := by
  have hd₁ := duties_snd m c X hr
  have hd₂ := duties_rcv m (fwd X c) X hr
  have hk₁ := amount_cell m c (kSnd X r) (r / 2) 0
  have hk₂ := amount_cell m (fwd X c) (kRcv X (r + 1)) (r / 2) 0
  have hp₁ := payload_snd m c X r 0
  have hp₂ := payload_rcv m (fwd X c) X r 0
  rw [own_fwd, hw] at hp₂
  rw [hw] at hp₁
  unfold stock fact rs owesE
  iintro ⟨#HR, Hx, ⟨Hd1, Hd2, Hw⟩, ⟨#Hrel, #Hrc⟩, #Hrs, ⟨%W, HO⟩⟩ Hk
  ihave #HI1 := (recs_cell m K KS c (kSnd X r)) $$ HR
  ihave #HI2 := (recs_cell m K KS (fwd X c) (kRcv X (r + 1))) $$ HR
  ihave #HIs := (recs_slot m K KS (fwd X c) X (par (r + 1))) $$ HR
  imod (Release.slot_take EK (Set.mem_univ (KS (fwd X c, X, par (r + 1)))) (r / 2 + 1)) $$ [Hw] with Hf
  · isplitr; · iexact HIs
    isplitr; · iexact Hrel
    iexact Hw
  ihave Hf := (Entails.of_eq (free_congr (F := F) (fwd X c) X (ofPar_par (r + 1)))) $$ Hf
  ihave Hx := (holds_split c X r w) $$ Hx
  icases Hx with ⟨Hx, Hx'⟩
  unfold free Release.slot holds
  icases Hx with ⟨%fs, %hfs, Hx⟩
  icases Hf with ⟨%fd, Hf⟩
  have hl := land_holds X c (fwd X c) r (r + 1) fs fd w hfs
  have e1 : cell c (kSnd X r) = ((c : Thread nD τ), .dma (sem2 (semS X) r)) := by unfold cell; rw [sm_snd]
  have e2 : cell (fwd X c) (kRcv X (r + 1)) = ((fwd X c : Thread nD τ), .dma (sem2 (semV X) (r + 1))) := by
    unfold cell; rw [sm_rcv]
  rw [e1] at hd₁ hk₁ hp₁ ⊢
  rw [e2] at hd₂ hk₂ hp₂ hO ⊢
  unfold sendStep
  iapply (Rounds.wp_send_pointsTo 𝒱₀ ER (Rd m) (c : Thread nD τ) none (c' := (fwd X c : Thread nD τ))
    (src := slot (comm X) r) (dst := slot (comm X) (r + 1))
    (sS := .dma (sem2 (semS X) r)) (sem := .dma (sem2 (semV X) (r + 1))) (q := fullShare.left) (fs := fs) (fd := fd)
    (κ₁ := K (c, kSnd X r)) (κ₂ := K (fwd X c, kRcv X (r + 1)))
    (r₁ := r / 2) (r₂ := r / 2) (d₁ := 0) (d₂ := 0)
    (by rw [hd₁]; exact Finset.mem_singleton_self _) (by rw [hd₂]; exact Finset.mem_singleton_self _)
    r r N (N_eq X (r + 1)) hk₁ hk₂ O hO (W := W)
    (by
      rw [hp₁]; unfold holds
      iintro H; iexists fs
      isplitr; · ipureintro; exact hfs
      rw [slot_set]; iexact H)
    (by
      rw [hp₂]; exact hl)) $$ [Hx Hf HO Hd1 Hd2]
  · isplitr; · iexact HI1
    isplitr; · iexact HI2
    isplitl [Hx]; · rw [slot_set]; iexact Hx
    isplitl [Hf]; · rw [slot_set]; iexact Hf
    isplitl [HO]; · iexact HO
    isplitl [Hd1]; · iexact Hd1
    isplitr; · iexact Hrs
    isplitl [Hd2]; · iexact Hd2
    iexact Hrc
  iintro ⟨Hc, HO⟩
  rw [wp_ret]
  imodintro
  iapply Hk
  isplitl [Hx']; · iexact Hx'
  isplitl [Hc]; · iexact Hc
  iexists W; iexact HO

/-! ## Waits for copies -/

theorem rest_one {g : GSem nD τ sig} {r : ℕ} {P : sProp (MM F)} (hd : (Rd m).duties g r = {0}) (hp : (Rd m).payload g r 0 = P) :
    bigSep ((Rd m).duties g r \ ∅) (fun d => (Rd m).payload g r d) = P := by
  rw [hd, Finset.sdiff_empty, bigSep_singleton, hp]

/-- The wait for a copy of round `r` to have left brings the half that went with it back. -/
theorem sent (c : Dev nD) (X : Bool) (r : ℕ) (hr : r < len X) (w : Vec F S1x2048x1024 .fp8e4m3) (hw : block m (own X c r) = w)
    (O : CellTallies nD τ sig ℕ) (hM : (levs : sProp (MM F)) ⊢ MayWait (c : Thread nD τ) (sm (kSnd X r)) r O) (Q : PUnit → sProp (MM F)) :
    iprop(recs m K KS ∗ holds c X r fullShare.right w ∗ cred (tallyAt (cell c (kSnd X r)) r N) ∗ aS c X r ∗ owesE c O)
      ⊢ iprop((holds c X r fullShare w ∗ aS c X (r + 2) ∗ rs c X (r + 2) ∗ owesE c O -∗ Q ⟨⟩) -∗ WP c (sentStep X r) Q) := by
  have hd := duties_snd m c X hr
  have hp := payload_snd m c X r 0
  have he := expect_cell m c (kSnd X r) (r / 2)
  rw [← duties_cell m c, hd, Finset.card_singleton, Nat.one_mul, amountK_copy] at he
  rw [hw] at hp
  unfold aS rs owesE
  rw [show kSnd X (r + 2) = kSnd X r by unfold kSnd; rw [par_two], show (r + 2) / 2 = r / 2 + 1 by omega]
  iintro ⟨#HR, Hx, Hc, Ha, ⟨%W, HO⟩⟩ Hk
  ihave #HI := (recs_cell m K KS c (kSnd X r)) $$ HR
  have e1 : sm (kSnd X r) = .dma (sem2 (semS X) r) := sm_snd X r
  unfold cell at hd he hp ⊢
  rw [e1] at hd he hp hM ⊢
  have hB := rest_one m hd hp
  have hM' := (recs_lev m K KS).trans hM
  unfold sentStep
  have hN := N_eq X r
  iapply (Rounds.wp_wait_rest_token 𝒱₀ ER (Rd m) (c : Thread nD τ) none (κ := K (c, kSnd X r))
    (wpE_waitDma2_eq 𝒱₀ (c : Thread nD τ) none Set.univ) (Set.mem_univ _) r (O := O) (W := W) (R := r / 2) (m := 0) (T := ∅)
    (by rw [Nat.zero_add, N_eq, he])) $$ [Hc HO Ha]
  · isplitr; · iexact HI
    isplitl [Hc]; · rw [N_eq]; iexact Hc
    isplitl [HO]; · iexact HO
    isplitr; · iapply hM'; iexact HR
    iexact Ha
  iintro ⟨HO, Ha, #Hr, Hp⟩
  ihave Hp := (Entails.of_eq hB) $$ Hp
  rw [wp_ret]
  imodintro
  iapply Hk
  isplitl [Hx Hp]
  · iapply (holds_join c X r w); isplitl [Hp] <;> iassumption
  isplitl [Ha]; · iexact Ha
  isplitr; · iexact Hr
  iexists _; iexact HO

/-- The wait for round `r`'s landing brings the next block. -/
theorem recv (c : Dev nD) (X : Bool) (r : ℕ) (hr : r < len X) (O : CellTallies nD τ sig ℕ)
    (hM : (levs : sProp (MM F)) ⊢ MayWait (c : Thread nD τ) (sm (kRcv X (r + 1))) r O) (Q : PUnit → sProp (MM F)) :
    iprop(recs m K KS ∗ rcred c X r ∗ av c X r ∗ owesE c O)
      ⊢ iprop((holds c X (r + 1) fullShare (block m (own X c (r + 1))) ∗ av c X (r + 2) ∗ rv c X (r + 1) ∗ owesE c O -∗ Q ⟨⟩)
        -∗ WP c (recvStep X r) Q) := by
  have hd := duties_rcv m c X hr
  have hp := payload_rcv m c X r 0
  have he := expect_cell m c (kRcv X (r + 1)) (r / 2)
  rw [← duties_cell m c, hd, Finset.card_singleton, Nat.one_mul, amountK_copy] at he
  unfold av rv rcred owesE
  rw [show kRcv X (r + 2 + 1) = kRcv X (r + 1) by unfold kRcv; rw [show r + 2 + 1 = r + 1 + 2 by omega, par_two],
    show (r + 2) / 2 = r / 2 + 1 by omega]
  iintro ⟨#HR, Hc, Ha, ⟨%W, HO⟩⟩ Hk
  ihave #HI := (recs_cell m K KS c (kRcv X (r + 1))) $$ HR
  have e1 : sm (kRcv X (r + 1)) = .dma (sem2 (semV X) (r + 1)) := sm_rcv X (r + 1)
  unfold cell at hd he hp ⊢
  rw [e1] at hd he hp hM ⊢
  have hB := rest_one m hd hp
  have hM' := (recs_lev m K KS).trans hM
  unfold recvStep
  have hN := N_eq X r
  iapply (Rounds.wp_wait_rest_token 𝒱₀ ER (Rd m) (c : Thread nD τ) none (κ := K (c, kRcv X (r + 1)))
    (wpE_waitDma2_eq 𝒱₀ (c : Thread nD τ) none Set.univ) (Set.mem_univ _) r (O := O) (W := W) (R := r / 2) (m := 0) (T := ∅)
    (by rw [Nat.zero_add, N_eq, he])) $$ [Hc HO Ha]
  · isplitr; · iexact HI
    isplitl [Hc]; · rw [N_eq]; iexact Hc
    isplitl [HO]; · iexact HO
    isplitr; · iapply hM'; iexact HR
    iexact Ha
  iintro ⟨HO, Ha, #Hr, Hp⟩
  ihave Hp := (Entails.of_eq hB) $$ Hp
  rw [wp_ret]
  imodintro
  iapply Hk
  isplitl [Hp]; · iexact Hp
  isplitl [Ha]; · iexact Ha
  isplitr; · iexact Hr
  iexists _; iexact HO

/-! ## Credits -/

/-- The token that pays a credit, and the credit to wait with. -/
def gtok (c : Dev nD) (X : Bool) (j : ℕ) : sProp (MM F) := dutyTok ER (cell (bwd X c) (kRdy X)) 0 j
def wcred (c : Dev nD) (X : Bool) (j : ℕ) : sProp (MM F) := cred (tallyAt (cell c (kRdy X)) j 1)

/-- A credit given: the slot of round `r` is released for the copy of round `r + 1`. -/
theorem give (c : Dev nD) (X : Bool) (r : ℕ) (hr : r < len X - 1) (w : Vec F S1x2048x1024 .fp8e4m3)
    {O₀ : CellTallies nD τ sig ℕ} (O : CellTallies nD τ sig ℕ)
    (hO : O₀ = O + tallyAt (cell (bwd X c) (kRdy X)) r 1) (Q : PUnit → sProp (MM F)) :
    iprop(recs m K KS ∗ holds c X r fullShare w ∗ ra c X r ∗ gtok c X r ∗ facts c X r ∗ rv c X r
        ∗ reached ER (cell (bwd X c) (kRdy X)) 0 ∗ owesE c O₀)
      ⊢ iprop((ra c X (r + 2) ∗ facts c X (r + 1) ∗ owesE c O -∗ Q ⟨⟩)
        -∗ WP c (semSignalWord (bwd X c) (rdy X) 1#32) Q) := by
  have hd := duties_rdy m (bwd X c) X
  have hp := payload_rdy m (bwd X c) X r
  have hk := amount_cell m (bwd X c) (kRdy X) 0 r
  rw [fwd_bwd] at hp
  unfold ra rv gtok owesE
  iintro ⟨#HR, Hx, Ha, Hg, #Hfs, #Hrv, #Hr0, ⟨%W, HO⟩⟩ Hk
  ihave #HI := (recs_cell m K KS (bwd X c) (kRdy X)) $$ HR
  ihave #HIs := (recs_slot m K KS c X (par r)) $$ HR
  imod (Release.slot_release EK (Set.mem_univ (KS (c, X, par r))) (free_free_false (F := F) c X (ofPar (par r))) ((r + 1) / 2)) $$ [Hx Ha] with ⟨Ha, #Hrel⟩
  · isplitr; · iexact HIs
    isplitl [Ha]; · iexact Ha
    rw [free_congr c X (ofPar_par r)]
    iapply (holds_free c X r w); iexact Hx
  ihave #Hfs' : facts c X (r + 1) $$ [Hfs Hrel Hrv]
  · rw [show facts (F := F) c X (r + 1) = iprop(facts c X r ∗ fact c X (r + 1)) from rfl]
    isplitr; · iexact Hfs
    unfold fact
    rw [show par (r + 1 + 1) = par r from par_two r, show kRcv X (r + 1 + 1) = kRcv X r by unfold kRcv; rw [par_two]]
    isplitr; · iexact Hrel
    iexact Hrv
  unfold semSignalWord
  iapply (Rounds.wp_signal 𝒱₀ ER (Rd m) (c : Thread nD τ) none (dst := (bwd X c : Thread nD τ)) (sem := rdy X) (κ := K (bwd X c, kRdy X))
      (r := 0) (d := r) (k' := 1) (by rw [show ((bwd X c : Thread nD τ), SemLoc.reg (rdy X)) = cell (bwd X c) (kRdy X) from rfl, hd]; exact Finset.mem_range.mpr hr)
      hk r O hO (W := W)) $$ [HO Hg]
  · isplitr; · iexact HI
    isplitl [HO]; · iexact HO
    isplitl [Hg]; · iexact Hg
    isplitr; · rw [show ((bwd X c : Thread nD τ), SemLoc.reg (rdy X)) = cell (bwd X c) (kRdy X) from rfl, hp]; iexact Hfs'
    iexact Hr0
  iintro HO
  rw [wp_ret]
  imodintro
  iapply Hk
  rw [show par (r + 2) = par r from par_two r, show (r + 2 + 1) / 2 = (r + 1) / 2 + 1 by omega]
  isplitl [Ha]; · iexact Ha
  isplitr; · iexact Hfs'
  iexists W; iexact HO

end Cert.KernelIdeal.Moe
-- ==== Proof.KernelIdeal.Credits.lean ====
/- The waits for credits, and the handshake. -/
module

public import proofs.«01_k».proof.Proof.KernelIdeal.Steps

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × CK → ℕ) (KS : Key → ℕ)

/-- The facts that a set of credits brought. -/
def brought (c : Dev nD) (X : Bool) (T : Finset ℕ) : sProp (MM F) := bigSep T (fun j => facts (fwd X c) X (j + 1))
instance (c : Dev nD) (X : Bool) (T : Finset ℕ) : BI.Persistent (brought (F := F) c X T) := by unfold brought; infer_instance

/-- A device's place on its credit cell after `n` waits. The credits come in any order, so which came is not said: some
    `n` of them at least. -/
def rp (c : Dev nD) (X : Bool) (n : ℕ) : sProp (MM F) :=
  if n < len X - 1 then iprop(∃ T, atPos ER (cell c (kRdy X)) 0 T n ∗ brought c X T)
  else atPos ER (cell c (kRdy X)) 1 ∅ 0

theorem brought_at (c : Dev nD) (X : Bool) {T : Finset ℕ} {j n : ℕ} (hj : j ∈ T) (hn : n ≤ j + 1) :
    brought c X T ⊢ (fact (fwd X c) X n : sProp (MM F)) :=
  (bigSep_elim (Φ := fun j => facts (F := F) (fwd X c) X (j + 1)) hj).trans (facts_elim (fwd X c) X hn)

theorem brought_union (c : Dev nD) (X : Bool) {T S : Finset ℕ} (h : T ⊆ S) :
    iprop(brought c X T ∗ brought c X (S \ T)) ⊢ (brought c X S : sProp (MM F)) := by
  unfold brought
  have e := bigSep_union (M := MM F) (Φ := fun j => facts (fwd X c) X (j + 1)) (Finset.disjoint_sdiff (s := T) (t := S))
  rw [Finset.union_sdiff_of_subset h] at e
  exact Entails.of_eq e.symm

/-- Enough credits hold a late one. -/
theorem late {n : ℕ} {S : Finset ℕ} (h : n + 1 ≤ S.card) : ∃ j ∈ S, n + 1 ≤ j + 1 := by
  by_contra hne
  have hs : S ⊆ Finset.range n := by
    intro j hj
    rw [Finset.mem_range]
    by_contra hlt
    exact hne ⟨j, hj, by omega⟩
  have := Finset.card_le_card hs
  rw [Finset.card_range] at this
  omega

/-- The wait for a credit before round `n + 1` brings that round's facts. -/
theorem take (c : Dev nD) (X : Bool) (n : ℕ) (hn : n < len X - 1) (O : CellTallies nD τ sig ℕ)
    (hM : (levs : sProp (MM F)) ⊢ MayWait (c : Thread nD τ) (sm (kRdy X)) n O) (Q : PUnit → sProp (MM F)) :
    iprop(recs m K KS ∗ rp c X n ∗ wcred c X n ∗ owesE c O)
      ⊢ iprop((rp c X (n + 1) ∗ fact (fwd X c) X (n + 1) ∗ owesE c O -∗ Q ⟨⟩) -∗ WP c (semWaitWord (rdy X) 1#32) Q) := by
  have hd := duties_rdy m c X
  have hp : (fun d => (Rd m).payload (cell c (kRdy X)) 0 d) = fun j => facts (fwd X c) X (j + 1) := funext fun d => payload_rdy m c X d
  have he := expect_cell m c (kRdy X) 0
  rw [← duties_cell m c, hd, Finset.card_range, show amountK (kRdy X) = 1 from rfl, Nat.mul_one] at he
  have hM' : recs m K KS ⊢ MayWait (c : Thread nD τ) (.reg (rdy X)) n O := (recs_lev m K KS).trans hM
  have hrp : (rp c X n : sProp (MM F)) = iprop(∃ T, atPos ER (cell c (kRdy X)) 0 T n ∗ brought c X T) := if_pos hn
  rw [hrp]
  unfold wcred owesE
  iintro ⟨#HR, ⟨%T, Ha, #HT⟩, Hc, ⟨%W, HO⟩⟩ Hk
  ihave #HI := (recs_cell m K KS c (kRdy X)) $$ HR
  unfold semWaitWord
  rcases Nat.lt_or_ge (n + 1) (len X - 1) with hlt | hge
  · iapply (Rounds.wp_wait 𝒱₀ ER (Rd m) (c : Thread nD τ) none (sm := .reg (rdy X)) (k' := 1) (κ := K (c, kRdy X))
      (wpE_semWait_eq 𝒱₀ (c : Thread nD τ) none Set.univ) (Set.mem_univ _) (cr := Finsupp.single n 1) (O := O) (W := W)
      {(SemLoc.reg (rdy X), n)} (R := 0) (m := n) (T := T) (by rw [Util.total_single]) (by simp [Finsupp.support_single_ne_zero])) $$ [Hc HO Ha]
    · isplitr; · iexact HI
      isplitl [Hc]; · iexact Hc
      isplitl [HO]; · iexact HO
      isplitr; · iapply hM'; iexact HR
      iexact Ha
    iintro %S ⟨%hS, HO, Ha, Hp⟩
    obtain ⟨hTS, hSD, hcard⟩ := hS
    have hcard' : n + 1 ≤ S.card := by
      have h1 := Finset.card_sdiff_add_card_eq_card hSD
      rw [show (Rd m).expect ((c : Thread nD τ), SemLoc.reg (rdy X)) 0 = len X - 1 from he] at hcard
      rw [show (Rd m).duties ((c : Thread nD τ), SemLoc.reg (rdy X)) 0 = Finset.range (len X - 1) from hd] at h1 hcard
      rw [Finset.card_range] at h1
      omega
    obtain ⟨j, hj, hjn⟩ := late hcard'
    have hB : bigSep (S \ T) (fun d => (Rd m).payload ((c : Thread nD τ), SemLoc.reg (rdy X)) 0 d) = brought c X (S \ T) := by
      unfold brought; exact congrArg (bigSep (S \ T)) hp
    ihave #Hp := (Entails.of_eq hB) $$ Hp
    ihave #HS := (brought_union (F := F) c X hTS) $$ [HT Hp]
    · isplitr <;> iassumption
    have hrp' : (rp c X (n + 1) : sProp (MM F)) = iprop(∃ T, atPos ER (cell c (kRdy X)) 0 T (n + 1) ∗ brought c X T) := if_pos hlt
    rw [wp_ret]
    imodintro
    iapply Hk
    isplitl [Ha]
    · iapply (Entails.of_eq hrp'.symm)
      iexists S
      isplitl [Ha]; · iexact Ha
      iexact HS
    isplitr
    · iapply (brought_at (F := F) c X hj hjn); iexact HS
    iexists _; iexact HO
  · have hn1 : n + 1 = len X - 1 := by omega
    iapply (Rounds.wp_wait_rest_token 𝒱₀ ER (Rd m) (c : Thread nD τ) none (sm := .reg (rdy X)) (k' := 1) (κ := K (c, kRdy X))
      (wpE_semWait_eq 𝒱₀ (c : Thread nD τ) none Set.univ) (Set.mem_univ _) n (O := O) (W := W) (R := 0) (m := n) (T := T)
      (by rw [show (Rd m).expect ((c : Thread nD τ), SemLoc.reg (rdy X)) 0 = len X - 1 from he]; exact hn1)) $$ [Hc HO Ha]
    · isplitr; · iexact HI
      isplitl [Hc]; · iexact Hc
      isplitl [HO]; · iexact HO
      isplitr; · iapply hM'; iexact HR
      iexact Ha
    iintro ⟨HO, Ha, -, Hp⟩
    have hB : bigSep ((Rd m).duties ((c : Thread nD τ), SemLoc.reg (rdy X)) 0 \ T) (fun d => (Rd m).payload ((c : Thread nD τ), SemLoc.reg (rdy X)) 0 d)
        = brought c X (Finset.range (len X - 1) \ T) := by
      rw [show (Rd m).duties ((c : Thread nD τ), SemLoc.reg (rdy X)) 0 = Finset.range (len X - 1) from hd]
      unfold brought; exact congrArg (bigSep _) hp
    ihave #Hp := (Entails.of_eq hB) $$ Hp
    have hf : iprop(brought c X T ∗ brought c X (Finset.range (len X - 1) \ T)) ⊢ (fact (fwd X c) X (n + 1) : sProp (MM F)) := by
      by_cases hT : n ∈ T
      · iintro ⟨H, -⟩; iapply (brought_at (F := F) c X hT (Nat.le_refl _)); iexact H
      · iintro ⟨-, H⟩
        iapply (brought_at (F := F) c X (Finset.mem_sdiff.mpr ⟨Finset.mem_range.mpr hn, hT⟩) (Nat.le_refl _)); iexact H
    have hrp' : (rp c X (n + 1) : sProp (MM F)) = atPos ER (cell c (kRdy X)) 1 ∅ 0 := if_neg (by omega)
    rw [wp_ret]
    imodintro
    iapply Hk
    isplitl [Ha]
    · iapply (Entails.of_eq hrp'.symm); iexact Ha
    isplitr
    · iapply hf; isplitr <;> iassumption
    iexists _; iexact HO

/-! ## The handshake -/

/-- A side's duty on the barrier cell. -/
def barDuty (X : Bool) : ℕ := if X then 1 else 0

/-- A signal of the handshake: slot 1 is released for the first copy. -/
theorem hello (c : Dev nD) (X : Bool) {O₀ : CellTallies nD τ sig ℕ} (O : CellTallies nD τ sig ℕ)
    (hO : O₀ = O + tallyAt (cell (bwd X c) kBar) 0 1) (Q : PUnit → sProp (MM F)) :
    iprop(recs m K KS ∗ free c X 1 ∗ Release.readerAt EK (c, X, true) 0 ∗ dutyTok ER (cell (bwd X c) kBar) 0 (barDuty X)
        ∗ reached ER (cell c (kRcv X 1)) 0 ∗ reached ER (cell (bwd X c) kBar) 0 ∗ owesE c O₀)
      ⊢ iprop((ra c X 1 ∗ facts c X 0 ∗ owesE c O -∗ Q ⟨⟩) -∗ WP c (semSignalWord (bwd X c) barSem 1#32) Q) := by
  have hd := duties_bar m (bwd X c)
  have hp := payload_bar m (bwd X c) (barDuty X)
  have hk := amount_cell m (bwd X c) kBar 0 (barDuty X)
  have hX : (barDuty X == 1) = X := by cases X <;> rfl
  rw [hX, fwd_bwd] at hp
  unfold ra owesE
  iintro ⟨#HR, Hx, Ha, Hg, #Hrv, #Hr0, ⟨%W, HO⟩⟩ Hk
  ihave #HI := (recs_cell m K KS (bwd X c) kBar) $$ HR
  ihave #HIs := (recs_slot m K KS c X true) $$ HR
  imod (Release.slot_release EK (Set.mem_univ (KS (c, X, true))) (free_free_false (F := F) c X (ofPar true)) 0) $$ [Hx Ha] with ⟨Ha, #Hrel⟩
  · isplitr; · iexact HIs
    isplitl [Ha]; · iexact Ha
    iexact Hx
  unfold semSignalWord
  iapply (Rounds.wp_signal 𝒱₀ ER (Rd m) (c : Thread nD τ) none (dst := (bwd X c : Thread nD τ)) (sem := barSem) (κ := K (bwd X c, kBar))
      (r := 0) (d := barDuty X) (k' := 1)
      (by
        rw [show ((bwd X c : Thread nD τ), SemLoc.reg barSem) = cell (bwd X c) kBar from rfl, hd]
        cases X <;> decide)
      hk 0 O hO (W := W)) $$ [HO Hg]
  · isplitr; · iexact HI
    isplitl [HO]; · iexact HO
    isplitl [Hg]; · iexact Hg
    isplitr
    · rw [show ((bwd X c : Thread nD τ), SemLoc.reg barSem) = cell (bwd X c) kBar from rfl, hp]
      unfold fact
      isplitr; · iexact Hrel
      iexact Hrv
    iexact Hr0
  iintro HO
  rw [wp_ret]
  imodintro
  iapply Hk
  isplitl [Ha]; · iexact Ha
  isplitr
  · unfold facts fact
    isplitr; · iexact Hrel
    iexact Hrv
  iexists W; iexact HO

/-- The handshake's wait brings what the first sends need. -/
theorem met (c : Dev nD) (O : CellTallies nD τ sig ℕ) (hM : (levs : sProp (MM F)) ⊢ MayWait (c : Thread nD τ) (sm kBar) 0 O)
    (Q : PUnit → sProp (MM F)) :
    iprop(recs m K KS ∗ atPos ER (cell c kBar) 0 ∅ 0 ∗ cred (tallyAt (cell c kBar) 0 2) ∗ owesE c O)
      ⊢ iprop((atPos ER (cell c kBar) 1 ∅ 0 ∗ fact (fwd true c) true 0 ∗ fact (fwd false c) false 0 ∗ owesE c O -∗ Q ⟨⟩)
        -∗ WP c (semWaitWord barSem 2#32) Q) := by
  have hd := duties_bar m c
  have he := expect_cell m c kBar 0
  rw [show (dutiesK kBar 0).card * amountK kBar = 2 from rfl] at he
  have hM' : recs m K KS ⊢ MayWait (c : Thread nD τ) (.reg barSem) 0 O := (recs_lev m K KS).trans hM
  have hB : bigSep ((Rd m).duties ((c : Thread nD τ), SemLoc.reg barSem) 0 \ ∅) (fun d => (Rd m).payload ((c : Thread nD τ), SemLoc.reg barSem) 0 d)
      = iprop(fact (fwd false c) false 0 ∗ fact (fwd true c) true 0) := by
    rw [show (Rd m).duties ((c : Thread nD τ), SemLoc.reg barSem) 0 = {0, 1} from hd, Finset.sdiff_empty,
      bigSep_insert (by decide), bigSep_singleton]
    exact congrArg₂ (fun a b => iprop(a ∗ b)) (payload_bar m c 0) (payload_bar m c 1)
  unfold owesE
  iintro ⟨#HR, Ha, Hc, ⟨%W, HO⟩⟩ Hk
  ihave #HI := (recs_cell m K KS c kBar) $$ HR
  unfold semWaitWord
  iapply (Rounds.wp_wait_rest_token 𝒱₀ ER (Rd m) (c : Thread nD τ) none (sm := .reg barSem) (k' := 2) (κ := K (c, kBar))
    (wpE_semWait_eq 𝒱₀ (c : Thread nD τ) none Set.univ) (Set.mem_univ _) 0 (O := O) (W := W) (R := 0) (m := 0) (T := ∅)
    he.symm) $$ [Hc HO Ha]
  · isplitr; · iexact HI
    isplitl [Hc]; · iexact Hc
    isplitl [HO]; · iexact HO
    isplitr; · iapply hM'; iexact HR
    iexact Ha
  iintro ⟨HO, Ha, -, Hp⟩
  ihave Hp := (Entails.of_eq hB) $$ Hp
  icases Hp with ⟨Hp0, Hp1⟩
  rw [wp_ret]
  imodintro
  iapply Hk
  isplitl [Ha]; · iexact Ha
  isplitl [Hp1]; · iexact Hp1
  isplitl [Hp0]; · iexact Hp0
  iexists _; iexact HO

end Cert.KernelIdeal.Moe
-- ==== Proof.KernelIdeal.Compute.lean ====
/- The steps on one device: the masked tokens in their four pieces, and a block's product added to the output. -/
module

public import proofs.«01_k».proof.Proof.KernelIdeal.Steps

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The masked tokens side by side -/

/-- A column of the wide buffer, within its piece. -/
def inPiece (i : S1024x2048.Idx) : S1024x512.Idx := fun a => match a with
  | ⟨0, _⟩ => ⟨(i 0).val, (i 0).isLt⟩
  | ⟨1, _⟩ => ⟨(i 1).val % 512, Nat.mod_lt _ (by decide)⟩

/-- The tokens masked for each of the four experts of an owner, side by side. -/
def xcat (x : FVec F S1024x512 .bf16) (idx : IVec S1024x1 32) (p : FVec F S1024x1 .f32) (e : BitVec 32) :
    Vec F S1024x2048 .bf16 := fun i => masked x idx p e ((i 1).val / 512) (inPiece i)

/-- The wide buffer with piece `j` written. -/
def withPiece (f : Vec F S1024x2048 .bf16) (j : ℕ) (v : FVec F S1024x512 .bf16) : Vec F S1024x2048 .bf16 :=
  fun i => if (i 1).val / 512 = j then v (inPiece i) else f i

theorem write_rect_at (b : Ref sig .tc) (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) (Val := Elt F) f w (M := Finset.univ) (x := x) (Finset.mem_univ _)

theorem write_rect_off (b : Ref sig .tc) (r : Rect b.ty.shape) (f : b.ty.Contents (Elt F)) (w : r.shape.Idx → Elt F b.ty.elt)
    {i : b.ty.Idx} (h : i ∉ r.set) : ((Memref.whole b).access r).write (Elt F) f w Finset.univ i = f i := by
  refine View.write_of_not_mem (v := (Memref.whole b).access r) f w Finset.univ ?_
  intro hm
  rw [View.setOn_univ] at hm
  have hm' : i ∈ ((View.whole b).slice r).set := hm
  rw [View.set_slice_whole] at hm'
  exact h hm'

theorem write_piece (j o : ℕ) (ho : o = 512 * j)
    (hin : ∀ a, (![0, o] : Fin 2 → Nat) a + S1024x512.size a ≤ S1024x2048.size a) (f : Vec F S1024x2048 .bf16)
    (v : FVec F S1024x512 .bf16) :
    (xc.access (Rect.unit (s := S1024x2048) ![0, o] S1024x512.size hin)).write (Elt F) f v Finset.univ = withPiece f j v := by
  subst ho
  funext i
  unfold withPiece
  split
  · rename_i h
    have hi : (Rect.unit (s := S1024x2048) ![0, 512 * j] S1024x512.size hin).emb (inPiece i) = i := by
      funext a
      apply Fin.ext
      show (![0, 512 * j] : Fin 2 → ℕ) a + 1 * (inPiece i a).val = (i a).val
      match a with
      | ⟨0, _⟩ => show 0 + 1 * (i 0).val = (i 0).val; omega
      | ⟨1, _⟩ => show 512 * j + 1 * ((i 1).val % 512) = (i 1).val; omega
    have hw := write_rect_at cc0_scratch2 (Rect.unit (s := S1024x2048) ![0, 512 * j] S1024x512.size hin) f v (inPiece i)
    rw [hi] at hw
    exact hw
  · rename_i h
    refine write_rect_off cc0_scratch2 (Rect.unit (s := S1024x2048) ![0, 512 * j] S1024x512.size hin) f v ?_
    intro hm
    rw [Rect.mem_set_unit] at hm
    have h1 := hm 1
    have e1 : (![0, 512 * j] : Fin 2 → ℕ) 1 = 512 * j := rfl
    have e2 : S1024x512.size 1 = 512 := rfl
    rw [e1, e2] at h1
    omega

/-- Four pieces are the whole. -/
theorem pieces_eq (f : Vec F S1024x2048 .bf16) (x : FVec F S1024x512 .bf16) (idx : IVec S1024x1 32) (p : FVec F S1024x1 .f32) (e : BitVec 32) :
    withPiece (withPiece (withPiece (withPiece f 0 (masked x idx p e 0)) 1 (masked x idx p e 1)) 2 (masked x idx p e 2)) 3
      (masked x idx p e 3) = xcat x idx p e := by
  funext i
  have hi : (i 1).val < 2048 := (i 1).isLt
  have h4 : (i 1).val / 512 < 4 := by omega
  unfold withPiece xcat
  generalize (i 1).val / 512 = k at h4
  rcases (by omega : k = 0 ∨ k = 1 ∨ k = 2 ∨ k = 3) with rfl | rfl | rfl | rfl <;> simp

/-! ## The steps -/

/-- The output buffer, with its contents; the wide buffer, whatever is in it. -/
def outP (c : Dev nD) (o : Vec F S1024x1024 .f32) : sProp (MM F) :=
  iprop(((c : Thread nD τ).loc cc0_stg5_0) ↦{fullShare} (o : Buf (Elt F) ((c : Thread nD τ).loc cc0_stg5_0)))
def xcIs (c : Dev nD) (f : Vec F S1024x2048 .bf16) : sProp (MM F) :=
  iprop(((c : Thread nD τ).loc cc0_scratch2) ↦{fullShare} (f : Buf (Elt F) ((c : Thread nD τ).loc cc0_scratch2)))
def xcP (c : Dev nD) : sProp (MM F) := iprop(∃ f, xcIs c f)

theorem put_piece (c : Dev nD) (j o : ℕ) (ho : o = 512 * j) (hin) (hpk) (v : FVec F S1024x512 .bf16) (f : Vec F S1024x2048 .bf16)
    (Q : PUnit → sProp (MM F)) :
    xcIs c f ⊢ iprop((xcIs c (withPiece f j v) -∗ Q ⟨⟩) -∗ WP c (putPiece xc hxc o hin hpk v) Q) := by
  have hw := write_piece j o ho hin f v
  rw [← hw]
  unfold xcIs putPiece
  iintro H Hk
  rw [WP_bind]
  iapply (wp_load_rect 𝒱₀ (c : Thread nD τ) none Set.univ (m := xc) (r := Rect.unit (s := S1024x2048) ![0, o] S1024x512.size hin)
    (S := Finset.univ) (q := fullShare) (f := f) (Finset.subset_univ _)) $$ [H]
  · iexact H
  iintro H
  rw [wp_ret]
  imodintro
  iapply (wp_store 𝒱₀ (c : Thread nD τ) none Set.univ (m := xc) (r := Rect.unit (s := S1024x2048) ![0, o] S1024x512.size hin)
    (w := v) (Mk := Finset.univ) (S := Finset.univ) (f := f) (Finset.subset_univ _)) $$ [H]
  · iexact H
  iintro H
  rw [wp_ret]
  imodintro
  iapply Hk
  iexact H

theorem put_masked (c : Dev nD) (x : FVec F S1024x512 .bf16) (idx : IVec S1024x1 32) (p : FVec F S1024x1 .f32) (e : BitVec 32)
    (Q : PUnit → sProp (MM F)) :
    xcP c ⊢ iprop((xcIs c (xcat x idx p e) -∗ Q ⟨⟩) -∗ WP c (putMasked xc hxc x idx p e) Q) := by
  unfold xcP putMasked
  iintro ⟨%f, H⟩ Hk
  rw [WP_bind]
  iapply (put_piece c 0 0 rfl) $$ H
  iintro H
  rw [WP_bind]
  iapply (put_piece c 1 512 rfl) $$ H
  iintro H
  rw [WP_bind]
  iapply (put_piece c 2 1024 rfl) $$ H
  iintro H
  iapply (put_piece c 3 1536 rfl) $$ H
  iintro H
  iapply Hk
  rw [← pieces_eq f x idx p e]
  iexact H

/-- The whole output, and the whole wide buffer, as a load names them. -/
abbrev oRect : Rect S1024x1024 := Rect.unit (s := S1024x1024) ![0, 0] S1024x1024.size inb_S1024x1024_S1024x1024_0_0
abbrev zRect : Rect S1024x2048 := Rect.unit (s := S1024x2048) ![0, 0] S1024x2048.size inb_S1024x2048_S1024x2048_0_0

theorem add_block (c : Dev nD) (X : Bool) (n : ℕ) (q : PosShare TreeShare) (w : Vec F S1x2048x1024 .fp8e4m3) (o : Vec F S1024x1024 .f32)
    (z : Vec F S1024x2048 .bf16) (Q : PUnit → sProp (MM F)) :
    iprop(holds c X n q w ∗ outP c o ∗ xcIs c z)
      ⊢ iprop((holds c X n q w ∗ outP c (accum w o z) ∗ xcIs c z -∗ Q ⟨⟩)
        -∗ WP c (addBlock (Memref.whole cc0_stg5_0) xc (comm X) n) Q) := by
  have ho : ((Memref.whole cc0_stg5_0 : Memref sig .tc .vmem S1024x1024 .f32).access (Rect.unit (s := S1024x1024) ![0, 0] S1024x1024.size
      inb_S1024x1024_S1024x1024_0_0)).read (Elt F) o = o :=
    Memref.read_access_unit_zero (Elt F) cc0_stg5_0 (by funext a; fin_cases a <;> rfl) _ o
  have hz : (xc.access (Rect.unit (s := S1024x2048) ![0, 0] S1024x2048.size inb_S1024x2048_S1024x2048_0_0)).read (Elt F) z = z :=
    Memref.read_access_unit_zero (Elt F) cc0_scratch2 (by funext a; fin_cases a <;> rfl) _ z
  have hs : ((Memref.whole cc0_stg5_0 : Memref sig .tc .vmem S1024x1024 .f32).access (Rect.unit (s := S1024x1024) ![0, 0] S1024x1024.size
      inb_S1024x1024_S1024x1024_0_0)).write (Elt F) o (accum w o z) Finset.univ = accum w o z :=
    Memref.write_access_unit_zero_univ (Elt F) cc0_stg5_0 (by funext a; fin_cases a <;> rfl) _ o _
  unfold holds outP xcIs addBlock
  iintro ⟨⟨%f, %hf, Hw⟩, Ho, Hz⟩ Hk
  rw [WP_bind]
  iapply (wp_load_rect 𝒱₀ (c : Thread nD τ) none Set.univ (m := comm X) (r := slotRect n)
    (S := slotSet X n) (q := q) (f := f) (Finset.Subset.refl _)) $$ [Hw]
  · iexact Hw
  iintro Hw
  rw [hf, wp_ret]
  imodintro
  rw [WP_bind]
  iapply (wp_load_rect 𝒱₀ (c : Thread nD τ) none Set.univ (m := Memref.whole cc0_stg5_0) (r := oRect) (S := Finset.univ) (q := fullShare) (f := o)
    (Finset.subset_univ _)) $$ [Ho]
  · iexact Ho
  iintro Ho
  rw [ho, wp_ret]
  imodintro
  rw [WP_bind]
  iapply (wp_load_rect 𝒱₀ (c : Thread nD τ) none Set.univ (m := xc) (r := zRect) (S := Finset.univ) (q := fullShare) (f := z)
    (Finset.subset_univ _)) $$ [Hz]
  · iexact Hz
  iintro Hz
  rw [hz, wp_ret]
  imodintro
  rw [WP_bind]
  iapply (wp_load_rect 𝒱₀ (c : Thread nD τ) none Set.univ (m := Memref.whole cc0_stg5_0) (r := oRect) (S := Finset.univ) (q := fullShare) (f := o)
    (Finset.subset_univ _)) $$ [Ho]
  · iexact Ho
  iintro Ho
  rw [wp_ret]
  imodintro
  iapply (wp_store 𝒱₀ (c : Thread nD τ) none Set.univ (m := Memref.whole cc0_stg5_0) (r := oRect)
    (w := accum w o z) (Mk := Finset.univ) (S := Finset.univ) (f := o) (Finset.subset_univ _)) $$ [Ho]
  · iexact Ho
  iintro Ho
  rw [hs, wp_ret]
  imodintro
  iapply Hk
  isplitl [Hw]
  · iexists f; isplitr; · ipureintro; exact hf
    iexact Hw
  isplitl [Ho]; · iexact Ho
  iexact Hz

/-- A block's contribution. -/
theorem block_step (c : Dev nD) (X : Bool) (n : ℕ) (q : PosShare TreeShare) (w : Vec F S1x2048x1024 .fp8e4m3) (o : Vec F S1024x1024 .f32)
    (x : FVec F S1024x512 .bf16) (idx : IVec S1024x1 32) (p : FVec F S1024x1 .f32) (e : BitVec 32) (Q : PUnit → sProp (MM F)) :
    iprop(holds c X n q w ∗ outP c o ∗ xcP c)
      ⊢ iprop((holds c X n q w ∗ outP c (accum w o (xcat x idx p e)) ∗ xcP c -∗ Q ⟨⟩)
        -∗ WP c (blockStep (Memref.whole cc0_stg5_0) xc hxc (comm X) n x idx p e) Q) := by
  unfold blockStep
  iintro ⟨Hw, Ho, Hz⟩ Hk
  rw [WP_bind]
  iapply (put_masked c x idx p e) $$ Hz
  iintro Hz
  iapply (add_block c X n q w o (xcat x idx p e)) $$ [Hw Ho Hz]
  · isplitl [Hw]; · iexact Hw
    isplitl [Ho] <;> iassumption
  iintro ⟨Hw, Ho, Hz⟩
  iapply Hk
  isplitl [Hw]; · iexact Hw
  isplitl [Ho]; · iexact Ho
  unfold xcP
  iexists _; iexact Hz

end Cert.KernelIdeal.Moe
-- ==== Proof.KernelIdeal.Side.lean ====
/- A side's state between steps, and each step on it. -/
module

public import proofs.«01_k».proof.Proof.KernelIdeal.Credits
public import proofs.«01_k».proof.Proof.KernelIdeal.Compute

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × CK → ℕ) (KS : Key → ℕ)

/-- What a side still has: to send with from round `a`, to wait for landings with from round `b`, to give credits with from
    round `g`, to wait for credits with after `w` waits. -/
def stocks (c : Dev nD) (X : Bool) (a b g w : ℕ) : sProp (MM F) :=
  iprop(bigSep (Finset.Ico a (len X)) (stock c X) ∗ bigSep (Finset.Ico b (len X)) (rcred c X)
    ∗ bigSep (Finset.Ico g (len X - 1)) (gtok c X) ∗ bigSep (Finset.Ico w (len X - 1)) (wcred c X) ∗ rp c X w)

/-- Where a side is: as a reader that released the slots of rounds before `i`, as a receiver before round `j`'s landing, as
    a sender before round `k`'s copy. -/
def places (c : Dev nD) (X : Bool) (i j k : ℕ) : sProp (MM F) :=
  iprop((ra c X i ∗ ra c X (i + 1) ∗ facts c X i ∗ reached ER (cell (bwd X c) (kRdy X)) 0) ∗ (av c X j ∗ av c X (j + 1) ∗ rv c X j)
    ∗ (aS c X k ∗ aS c X (k + 1) ∗ rs c X k ∗ rs c X (k + 1)))

theorem bigSep_head (Φ : ℕ → sProp (MM F)) {a n : ℕ} (h : a < n) :
    bigSep (Finset.Ico a n) Φ = iprop(Φ a ∗ bigSep (Finset.Ico (a + 1) n) Φ) := by
  rw [ico_step h, bigSep_insert (by simp)]; rfl

theorem side_take (c : Dev nD) (X : Bool) (a b g w : ℕ) (hw : w < len X - 1) (O : CellTallies nD τ sig ℕ)
    (hM : (levs : sProp (MM F)) ⊢ MayWait (c : Thread nD τ) (sm (kRdy X)) w O) (Q : PUnit → sProp (MM F)) :
    iprop(recs m K KS ∗ stocks c X a b g w ∗ owesE c O)
      ⊢ iprop((stocks c X a b g (w + 1) ∗ fact (fwd X c) X (w + 1) ∗ owesE c O -∗ Q ⟨⟩) -∗ WP c (semWaitWord (rdy X) 1#32) Q) := by
  unfold stocks
  rw [bigSep_head (wcred c X) hw]
  iintro ⟨#HR, ⟨Ha, Hb, Hg, ⟨Hw, Hw'⟩, Hr⟩, HO⟩ Hk
  iapply (take m K KS c X w hw O hM) $$ [Hr Hw HO]
  · isplitr; · iexact HR
    isplitl [Hr]; · iexact Hr
    isplitl [Hw] <;> iassumption
  iintro ⟨Hr, #Hf, HO⟩
  iapply Hk
  isplitr [HO]
  · isplitl [Ha]; · iexact Ha
    isplitl [Hb]; · iexact Hb
    isplitl [Hg]; · iexact Hg
    isplitl [Hw'] <;> iassumption
  isplitr; · iexact Hf
  iexact HO

theorem side_send (c : Dev nD) (X : Bool) (r b g w i j : ℕ) (hr : r < len X)
    {O₀ : CellTallies nD τ sig ℕ} (O : CellTallies nD τ sig ℕ)
    (hO : O₀ = O + tallyAt (cell (fwd X c) (kRcv X (r + 1))) r N) (Q : PUnit → sProp (MM F)) :
    iprop(recs m K KS ∗ holds c X r fullShare (block m (own X c r)) ∗ stocks c X r b g w ∗ places c X i j r ∗ fact (fwd X c) X r ∗ owesE c O₀)
      ⊢ iprop((holds c X r fullShare.right (block m (own X c r)) ∗ cred (tallyAt (cell c (kSnd X r)) r N)
          ∗ stocks c X (r + 1) b g w ∗ places c X i j r ∗ owesE c O -∗ Q ⟨⟩) -∗ WP c (sendStep X r (fwd X c)) Q) := by
  unfold stocks places
  rw [bigSep_head (stock c X) hr]
  iintro ⟨#HR, Hx, ⟨⟨Hs, Ha⟩, Hst⟩, ⟨Hp1, Hp2, Hp3, Hp4, #Hrs, Hp5⟩, #Hf, HO⟩ Hk
  iapply (send m K KS c X r hr _ rfl O hO) $$ [Hx Hs HO]
  · isplitr; · iexact HR
    isplitl [Hx]; · iexact Hx
    isplitl [Hs]; · iexact Hs
    isplitr; · iexact Hf
    isplitr; · iexact Hrs
    iexact HO
  iintro ⟨Hx, Hc, HO⟩
  iapply Hk
  isplitl [Hx]; · iexact Hx
  isplitl [Hc]; · iexact Hc
  isplitl [Ha Hst]
  · isplitl [Ha] <;> iassumption
  isplitr [HO]
  · isplitl [Hp1]; · iexact Hp1
    isplitl [Hp2]; · iexact Hp2
    isplitl [Hp3]; · iexact Hp3
    isplitl [Hp4]; · iexact Hp4
    isplitr; · iexact Hrs
    iexact Hp5
  iexact HO

theorem side_sent (c : Dev nD) (X : Bool) (r i j : ℕ) (hr : r < len X) (O : CellTallies nD τ sig ℕ)
    (hM : (levs : sProp (MM F)) ⊢ MayWait (c : Thread nD τ) (sm (kSnd X r)) r O) (Q : PUnit → sProp (MM F)) :
    iprop(recs m K KS ∗ holds c X r fullShare.right (block m (own X c r)) ∗ cred (tallyAt (cell c (kSnd X r)) r N) ∗ places c X i j r ∗ owesE c O)
      ⊢ iprop((holds c X r fullShare (block m (own X c r)) ∗ places c X i j (r + 1) ∗ owesE c O -∗ Q ⟨⟩)
        -∗ WP c (sentStep X r) Q) := by
  unfold places
  iintro ⟨#HR, Hx, Hc, ⟨Hp1, Hp2, Ha, Ha', -, #Hrs'⟩, HO⟩ Hk
  iapply (sent m K KS c X r hr _ rfl O hM) $$ [Hx Hc Ha HO]
  · isplitr; · iexact HR
    isplitl [Hx]; · iexact Hx
    isplitl [Hc]; · iexact Hc
    isplitl [Ha] <;> iassumption
  iintro ⟨Hx, Ha, #Hrs, HO⟩
  iapply Hk
  isplitl [Hx]; · iexact Hx
  isplitr [HO]
  · isplitl [Hp1]; · iexact Hp1
    isplitl [Hp2]; · iexact Hp2
    isplitl [Ha']; · iexact Ha'
    isplitl [Ha]; · iexact Ha
    isplitr; · iexact Hrs'
    iexact Hrs
  iexact HO

theorem side_give (c : Dev nD) (X : Bool) (r a b w k : ℕ) (hr : r < len X - 1) (v : Vec F S1x2048x1024 .fp8e4m3)
    {O₀ : CellTallies nD τ sig ℕ} (O : CellTallies nD τ sig ℕ)
    (hO : O₀ = O + tallyAt (cell (bwd X c) (kRdy X)) r 1) (Q : PUnit → sProp (MM F)) :
    iprop(recs m K KS ∗ holds c X r fullShare v ∗ stocks c X a b r w ∗ places c X r r k ∗ owesE c O₀)
      ⊢ iprop((stocks c X a b (r + 1) w ∗ places c X (r + 1) r k ∗ owesE c O -∗ Q ⟨⟩)
        -∗ WP c (semSignalWord (bwd X c) (rdy X) 1#32) Q) := by
  unfold stocks places
  rw [bigSep_head (gtok c X) hr]
  iintro ⟨#HR, Hx, ⟨Ha, Hb, ⟨Hg, Hg'⟩, Hw⟩, ⟨⟨Hr, Hr', #Hf, #Hr0⟩, ⟨Hv, Hv', #Hrv⟩, Hp3⟩, HO⟩ Hk
  iapply (give m K KS c X r hr v O hO) $$ [Hx Hr Hg HO]
  · isplitr; · iexact HR
    isplitl [Hx]; · iexact Hx
    isplitl [Hr]; · iexact Hr
    isplitl [Hg]; · iexact Hg
    isplitr; · iexact Hf
    isplitr; · iexact Hrv
    isplitr; · iexact Hr0
    iexact HO
  iintro ⟨Hr, #Hf', HO⟩
  iapply Hk
  isplitl [Ha Hb Hg' Hw]
  · isplitl [Ha]; · iexact Ha
    isplitl [Hb]; · iexact Hb
    isplitl [Hg'] <;> iassumption
  isplitr [HO]
  · isplitl [Hr Hr']
    · isplitl [Hr']; · iexact Hr'
      isplitl [Hr]; · iexact Hr
      isplitr; · iexact Hf'
      iexact Hr0
    isplitl [Hv Hv']
    · isplitl [Hv]; · iexact Hv
      isplitl [Hv']; · iexact Hv'
      iexact Hrv
    iexact Hp3
  iexact HO

theorem side_recv (c : Dev nD) (X : Bool) (r a g w i k : ℕ) (hr : r < len X) (O : CellTallies nD τ sig ℕ)
    (hM : (levs : sProp (MM F)) ⊢ MayWait (c : Thread nD τ) (sm (kRcv X (r + 1))) r O) (Q : PUnit → sProp (MM F)) :
    iprop(recs m K KS ∗ stocks c X a r g w ∗ places c X i r k ∗ owesE c O)
      ⊢ iprop((holds c X (r + 1) fullShare (block m (own X c (r + 1))) ∗ stocks c X a (r + 1) g w ∗ places c X i (r + 1) k ∗ owesE c O -∗ Q ⟨⟩)
        -∗ WP c (recvStep X r) Q) := by
  unfold stocks places
  rw [bigSep_head (rcred c X) hr]
  iintro ⟨#HR, ⟨Ha, ⟨Hc, Hb⟩, Hg⟩, ⟨Hp1, ⟨Hv, Hv', -⟩, Hp3⟩, HO⟩ Hk
  iapply (recv m K KS c X r hr O hM) $$ [Hc Hv HO]
  · isplitr; · iexact HR
    isplitl [Hc]; · iexact Hc
    isplitl [Hv] <;> iassumption
  iintro ⟨Hx, Hv, #Hrv, HO⟩
  iapply Hk
  isplitl [Hx]; · iexact Hx
  isplitl [Ha Hb Hg]
  · isplitl [Ha]; · iexact Ha
    isplitl [Hb] <;> iassumption
  isplitr [HO]
  · isplitl [Hp1]; · iexact Hp1
    isplitl [Hv Hv']
    · isplitl [Hv']; · iexact Hv'
      isplitl [Hv]; · iexact Hv
      iexact Hrv
    iexact Hp3
  iexact HO

end Cert.KernelIdeal.Moe
-- ==== Proof.KernelIdeal.RoundSteps.lean ====
/- The rounds: the sends, the products and the end of a round, for both rings at once. -/
module

public import proofs.«01_k».proof.Proof.KernelIdeal.Side

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × CK → ℕ) (KS : Key → ℕ)

/-! ## What the steps discharge -/

theorem owed_sendR (c : Dev nD) {a b p q : ℕ} (h : a < 8) :
    owed c a b p q = owed c (a + 1) b p q + tallyAt (cell (fwd true c) (kRcv true (a + 1))) a N := by
  unfold owed; rw [owedS_step true c h]; ac_rfl
theorem owed_sendL (c : Dev nD) {a b p q : ℕ} (h : b < 7) :
    owed c a b p q = owed c a (b + 1) p q + tallyAt (cell (fwd false c) (kRcv false (b + 1))) b N := by
  unfold owed; rw [owedS_step false c h]; ac_rfl
theorem owed_giveR (c : Dev nD) {a b p q : ℕ} (h : p < 7) :
    owed c a b p q = owed c a b (p + 1) q + tallyAt (cell (bwd true c) (kRdy true)) p 1 := by
  unfold owed; rw [owedR_step true c h]; ac_rfl
theorem owed_giveL (c : Dev nD) {a b p q : ℕ} (h : q < 6) :
    owed c a b p q = owed c a b p (q + 1) + tallyAt (cell (bwd false c) (kRdy false)) q 1 := by
  unfold owed; rw [owedR_step false c h]; ac_rfl
/-- The left-going ring is done after its seven sends and six credits. -/
theorem owed_late (c : Dev nD) (a p : ℕ) : owed c a 7 p 6 = owed c a 8 p 7 := by
  unfold owed owedS owedR; rfl
theorem owed_end (c : Dev nD) : owed c 8 8 7 7 = 0 := by
  unfold owed owedS owedR
  rw [Finset.Ico_eq_empty (by decide), Finset.Ico_eq_empty (by decide), Finset.Ico_eq_empty (by decide), Finset.Ico_eq_empty (by decide)]
  simp only [Finset.sum_empty, add_zero]

theorem wait_lv (c : Dev nD) (k : CK) (ι a b p q n : ℕ) (hn : lv (cell c k) ι = n) (hι : ι < 16) (ha : n < 3 * a + 3) (hb : n < 3 * b + 3)
    (hp : n < 3 * p + 5) (hq : n < 3 * q + 5) : (levs : sProp (MM F)) ⊢ MayWait (c : Thread nD τ) (sm k) ι (owed c a b p q) :=
  mayWait c k ι hι (by omega) (by omega) (by omega) (by omega)

theorem lv_snd (c : Dev nD) (X : Bool) (n ι : ℕ) : lv (cell c (kSnd X n)) ι = 0 := by rw [lv_cell]
theorem lv_rcv (c : Dev nD) (X : Bool) (n ι : ℕ) : lv (cell c (kRcv X n)) ι = 3 * ι + 3 := by rw [lv_cell]
theorem lv_rdy (c : Dev nD) (X : Bool) (ι : ℕ) : lv (cell c (kRdy X)) ι = 3 * ι + 5 := by rw [lv_cell]
theorem lv_bar (c : Dev nD) (ι : ℕ) : lv (cell c kBar) ι = 1 := by rw [lv_cell]

/-! ## A side between the parts of a round -/

/-- A side at the start of a round. -/
def ready (c : Dev nD) (X : Bool) (r : ℕ) : sProp (MM F) :=
  iprop(holds c X r fullShare (block m (own X c r)) ∗ stocks c X r r r (r - 1) ∗ places c X r r r)
/-- A side whose copy is under way. -/
def busy (c : Dev nD) (X : Bool) (r : ℕ) : sProp (MM F) :=
  iprop(holds c X r fullShare.right (block m (own X c r)) ∗ cred (tallyAt (cell c (kSnd X r)) r N) ∗ stocks c X (r + 1) r r r
    ∗ places c X r r r)
/-- A side at the end of a round after which it does not offer the slot again. -/
def stays (c : Dev nD) (X : Bool) (r : ℕ) : sProp (MM F) :=
  iprop(holds c X r fullShare (block m (own X c r)) ∗ holds c X (r + 1) fullShare (block m (own X c (r + 1)))
    ∗ stocks c X (r + 1) (r + 1) r r ∗ places c X r (r + 1) (r + 1))
/-- The left-going side at the end of a round. -/
def after (more : Bool) (c : Dev nD) (r : ℕ) : sProp (MM F) :=
  match more with
  | true => ready m c false (r + 1)
  | false => stays m c false r

/-- The right-going ring's send after its credit, then the left-going ring's. -/
theorem send_both (c : Dev nD) (n : ℕ) (hn : n < 6) (Q : PUnit → sProp (MM F)) :
    iprop(recs m K KS ∗ ready m c true (n + 1) ∗ ready m c false (n + 1) ∗ owesE c (owed c (n + 1) (n + 1) (n + 1) (n + 1)))
      ⊢ iprop((busy m c true (n + 1) ∗ busy m c false (n + 1) ∗ owesE c (owed c (n + 1 + 1) (n + 1 + 1) (n + 1) (n + 1)) -∗ Q ⟨⟩)
        -∗ WP c (sendBoth (n + 1) (nxt c) (prv c)) Q) := by
  unfold sendBoth ready busy
  iintro ⟨#HR, ⟨Hx, Hs, Hp⟩, ⟨Hx', Hs', Hp'⟩, HO⟩ Hk
  rw [WP_bind]
  iapply (side_take m K KS c true (n + 1) (n + 1) (n + 1) n (by show n < 7; omega) (owed c (n + 1) (n + 1) (n + 1) (n + 1))
    (wait_lv c (kRdy true) n _ _ _ _ _ (lv_rdy c true n) (by omega) (by omega) (by omega) (by omega) (by omega))) $$ [Hs HO]
  · isplitr; · iexact HR
    isplitl [Hs]; · iexact Hs
    iexact HO
  iintro ⟨Hs, #Hf, HO⟩
  rw [WP_bind]
  iapply (side_send m K KS c true (n + 1) (n + 1) (n + 1) (n + 1) (n + 1) (n + 1) (by show n + 1 < 8; omega)
    (owed c (n + 1 + 1) (n + 1) (n + 1) (n + 1)) (owed_sendR c (by omega))) $$ [Hx Hs Hp HO]
  · isplitr; · iexact HR
    isplitl [Hx]; · iexact Hx
    isplitl [Hs]; · iexact Hs
    isplitl [Hp]; · iexact Hp
    isplitr; · iexact Hf
    iexact HO
  iintro ⟨Hx, Hc, Hs, Hp, HO⟩
  rw [WP_bind]
  iapply (side_take m K KS c false (n + 1) (n + 1) (n + 1) n hn (owed c (n + 1 + 1) (n + 1) (n + 1) (n + 1))
    (wait_lv c (kRdy false) n _ _ _ _ _ (lv_rdy c false n) (by omega) (by omega) (by omega) (by omega) (by omega))) $$ [Hs' HO]
  · isplitr; · iexact HR
    isplitl [Hs']; · iexact Hs'
    iexact HO
  iintro ⟨Hs', #Hf', HO⟩
  iapply (side_send m K KS c false (n + 1) (n + 1) (n + 1) (n + 1) (n + 1) (n + 1) (by show n + 1 < 7; omega)
    (owed c (n + 1 + 1) (n + 1 + 1) (n + 1) (n + 1)) (owed_sendL c (by omega))) $$ [Hx' Hs' Hp' HO]
  · isplitr; · iexact HR
    isplitl [Hx']; · iexact Hx'
    isplitl [Hs']; · iexact Hs'
    isplitl [Hp']; · iexact Hp'
    isplitr; · iexact Hf'
    iexact HO
  iintro ⟨Hx', Hc', Hs', Hp', HO⟩
  iapply Hk
  isplitl [Hx Hc Hs Hp]
  · isplitl [Hx]; · iexact Hx
    isplitl [Hc]; · iexact Hc
    isplitl [Hs]; · iexact Hs
    iexact Hp
  isplitl [Hx' Hc' Hs' Hp']
  · isplitl [Hx']; · iexact Hx'
    isplitl [Hc']; · iexact Hc'
    isplitl [Hs']; · iexact Hs'
    iexact Hp'
  iexact HO

/-- Both rings' blocks of a round, at any shares of the slots. -/
theorem compute_both (c : Dev nD) (v : Loaded F) (r : ℕ) (q q' : PosShare TreeShare) (w w' : Vec F S1x2048x1024 .fp8e4m3)
    (o : Vec F S1024x1024 .f32) (Q : PUnit → sProp (MM F)) :
    iprop(holds c true r q w ∗ holds c false r q' w' ∗ outP c o ∗ xcP c)
      ⊢ iprop((holds c true r q w ∗ holds c false r q' w'
          ∗ outP c (accum w' (accum w o (xcat v.x v.idx v.p (ownR v.d r))) (xcat v.x v.idx v.p (ownL v.d r))) ∗ xcP c -∗ Q ⟨⟩)
        -∗ WP c (computeBoth (Memref.whole cc0_stg5_0) v r) Q) := by
  unfold computeBoth
  iintro ⟨Hx, Hx', Ho, Hz⟩ Hk
  rw [WP_bind]
  iapply (block_step c true r q w o v.x v.idx v.p (ownR v.d r)) $$ [Hx Ho Hz]
  · isplitl [Hx]; · iexact Hx
    isplitl [Ho] <;> iassumption
  iintro ⟨Hx, Ho, Hz⟩
  iapply (block_step c false r q' w' _ v.x v.idx v.p (ownL v.d r)) $$ [Hx' Ho Hz]
  · isplitl [Hx']; · iexact Hx'
    isplitl [Ho] <;> iassumption
  iintro ⟨Hx', Ho, Hz⟩
  iapply Hk
  isplitl [Hx]; · iexact Hx
  isplitl [Hx']; · iexact Hx'
  isplitl [Ho] <;> iassumption

/-- The left-going ring's credit, in the rounds that give one. -/
theorem give_left (more : Bool) (c : Dev nD) (r : ℕ) (hr : r + more.toNat ≤ 6) (Q : PUnit → sProp (MM F)) :
    iprop(recs m K KS ∗ holds c false r fullShare (block m (own false c r)) ∗ stocks c false (r + 1) r r r ∗ places c false r r (r + 1)
        ∗ owesE c (owed c (r + 1) (r + 1) (r + 1) r))
      ⊢ iprop(((bif more then iprop(emp) else holds c false r fullShare (block m (own false c r)))
            ∗ stocks c false (r + 1) r (r + more.toNat) r ∗ places c false (r + more.toNat) r (r + 1)
            ∗ owesE c (owed c (r + 1) (r + 1) (r + 1) (r + more.toNat)) -∗ Q ⟨⟩)
        -∗ WP c (match more with
          | true => semSignalWord (nxt c) (rdy false) 1#32
          | false => pure ⟨⟩) Q) := by
  cases more
  · iintro ⟨#HR, Hx, Hs, Hp, HO⟩ Hk
    dsimp only [Bool.toNat_false, Nat.add_zero, cond_false]
    rw [show (pure ⟨⟩ : Pr F PUnit) = .ret ⟨⟩ from rfl]
    unfold WP
    rw [wp_ret]
    imodintro
    iapply Hk
    isplitl [Hx]; · iexact Hx
    isplitl [Hs]; · iexact Hs
    isplitl [Hp] <;> iassumption
  · iintro ⟨#HR, Hx, Hs, Hp, HO⟩ Hk
    iapply (side_give m K KS c false r (r + 1) r r (r + 1) (by have h : r + 1 ≤ 6 := hr; show r < 6; omega) _
      (owed c (r + 1) (r + 1) (r + 1) (r + 1)) (owed_giveL c (by have h : r + 1 ≤ 6 := hr; omega))) $$ [Hx Hs Hp HO]
    · isplitr; · iexact HR
      isplitl [Hx]; · iexact Hx
      isplitl [Hs]; · iexact Hs
      isplitl [Hp] <;> iassumption
    iintro ⟨Hs, Hp, HO⟩
    iapply Hk
    isplitr; · dsimp only [cond_true]; iempintro
    isplitl [Hs]; · iexact Hs
    isplitl [Hp]; · iexact Hp
    iexact HO

theorem finishBoth_eq (more : Bool) (r : ℕ) (left right : Dev nD) : (finishBoth more r left right : Pr F PUnit) =
    sentStep true r >>= fun _ => semSignalWord left (rdy true) 1#32 >>= fun _ => sentStep false r >>= fun _ =>
      (match more with
        | true => semSignalWord right (rdy false) 1#32
        | false => pure ⟨⟩) >>= fun _ => recvStep true r >>= fun _ => recvStep false r := by cases more <;> rfl

/-- The end of a round. -/
theorem finish_both (more : Bool) (c : Dev nD) (r : ℕ) (hr : r + more.toNat ≤ 6) (Q : PUnit → sProp (MM F)) :
    iprop(recs m K KS ∗ busy m c true r ∗ busy m c false r ∗ owesE c (owed c (r + 1) (r + 1) r r))
      ⊢ iprop((ready m c true (r + 1) ∗ after m more c r ∗ owesE c (owed c (r + 1) (r + 1) (r + 1) (r + more.toNat)) -∗ Q ⟨⟩)
        -∗ WP c (finishBoth more r (prv c) (nxt c)) Q) := by
  rw [finishBoth_eq]
  unfold busy
  iintro ⟨#HR, ⟨Hx, Hc, Hs, Hp⟩, ⟨Hx', Hc', Hs', Hp'⟩, HO⟩ Hk
  rw [WP_bind]
  iapply (side_sent m K KS c true r r r (by show r < 8; omega) (owed c (r + 1) (r + 1) r r)
    (wait_lv c (kSnd true r) r _ _ _ _ _ (lv_snd c true r r) (by omega) (by omega) (by omega) (by omega) (by omega))) $$ [Hx Hc Hp HO]
  · isplitr; · iexact HR
    isplitl [Hx]; · iexact Hx
    isplitl [Hc]; · iexact Hc
    isplitl [Hp] <;> iassumption
  iintro ⟨Hx, Hp, HO⟩
  rw [WP_bind]
  iapply (side_give m K KS c true r (r + 1) r r (r + 1) (by show r < 7; omega) _
    (owed c (r + 1) (r + 1) (r + 1) r) (owed_giveR c (by omega))) $$ [Hx Hs Hp HO]
  · isplitr; · iexact HR
    isplitl [Hx]; · iexact Hx
    isplitl [Hs]; · iexact Hs
    isplitl [Hp] <;> iassumption
  iintro ⟨Hs, Hp, HO⟩
  rw [WP_bind]
  iapply (side_sent m K KS c false r r r (by show r < 7; omega) (owed c (r + 1) (r + 1) (r + 1) r)
    (wait_lv c (kSnd false r) r _ _ _ _ _ (lv_snd c false r r) (by omega) (by omega) (by omega) (by omega) (by omega))) $$ [Hx' Hc' Hp' HO]
  · isplitr; · iexact HR
    isplitl [Hx']; · iexact Hx'
    isplitl [Hc']; · iexact Hc'
    isplitl [Hp'] <;> iassumption
  iintro ⟨Hx', Hp', HO⟩
  rw [WP_bind]
  iapply (give_left m K KS more c r hr) $$ [Hx' Hs' Hp' HO]
  · isplitr; · iexact HR
    isplitl [Hx']; · iexact Hx'
    isplitl [Hs']; · iexact Hs'
    isplitl [Hp'] <;> iassumption
  iintro ⟨Hx', Hs', Hp', HO⟩
  rw [WP_bind]
  iapply (side_recv m K KS c true r (r + 1) (r + 1) r (r + 1) (r + 1) (by show r < 8; omega) (owed c (r + 1) (r + 1) (r + 1) (r + more.toNat))
    (wait_lv c (kRcv true (r + 1)) r _ _ _ _ _ (lv_rcv c true (r + 1) r) (by omega) (by omega) (by omega) (by omega) (by omega))) $$ [Hs Hp HO]
  · isplitr; · iexact HR
    isplitl [Hs]; · iexact Hs
    isplitl [Hp] <;> iassumption
  iintro ⟨Hx, Hs, Hp, HO⟩
  iapply (side_recv m K KS c false r (r + 1) (r + more.toNat) r (r + more.toNat) (r + 1) (by show r < 7; omega)
    (owed c (r + 1) (r + 1) (r + 1) (r + more.toNat))
    (wait_lv c (kRcv false (r + 1)) r _ _ _ _ _ (lv_rcv c false (r + 1) r) (by omega) (by omega) (by omega) (by omega) (by omega))) $$ [Hs' Hp' HO]
  · isplitr; · iexact HR
    isplitl [Hs']; · iexact Hs'
    isplitl [Hp'] <;> iassumption
  iintro ⟨Hy', Hs', Hp', HO⟩
  iapply Hk
  isplitl [Hx Hs Hp]
  · unfold ready
    isplitl [Hx]; · iexact Hx
    isplitl [Hs]; · iexact Hs
    iexact Hp
  isplitr [HO]
  · cases more
    · dsimp only [cond_false]
      unfold after stays
      isplitl [Hx']; · iexact Hx'
      isplitl [Hy']; · iexact Hy'
      isplitl [Hs']; · iexact Hs'
      iexact Hp'
    · unfold after ready
      isplitl [Hy']; · iexact Hy'
      isplitl [Hs']; · iexact Hs'
      iexact Hp'
  iexact HO

/-- The output after a round in which both rings bring a block. -/
def roundOut (c : Dev nD) (v : Loaded F) (r : ℕ) (o : Vec F S1024x1024 .f32) : Vec F S1024x1024 .f32 :=
  accum (block m (own false c r)) (accum (block m (own true c r)) o (xcat v.x v.idx v.p (ownR v.d r)))
    (xcat v.x v.idx v.p (ownL v.d r))

/-- A round between the first and the last. -/
theorem mid_round (more : Bool) (c : Dev nD) (v : Loaded F) (n : ℕ) (hn : n + 1 + more.toNat ≤ 6) (o : Vec F S1024x1024 .f32)
    (Q : PUnit → sProp (MM F)) :
    iprop(recs m K KS ∗ ready m c true (n + 1) ∗ ready m c false (n + 1) ∗ owesE c (owed c (n + 1) (n + 1) (n + 1) (n + 1))
        ∗ outP c o ∗ xcP c)
      ⊢ iprop((ready m c true (n + 2) ∗ after m more c (n + 1) ∗ owesE c (owed c (n + 2) (n + 2) (n + 2) (n + 1 + more.toNat))
          ∗ outP c (roundOut m c v (n + 1) o) ∗ xcP c -∗ Q ⟨⟩)
        -∗ WP c (midRound (Memref.whole cc0_stg5_0) v more (n + 1) (nxt c) (prv c) (prv c) (nxt c)) Q) := by
  unfold midRound
  iintro ⟨#HR, Ht, Hf, HO, Ho, Hz⟩ Hk
  rw [WP_bind]
  iapply (send_both m K KS c n (by omega)) $$ [Ht Hf HO]
  · isplitr; · iexact HR
    isplitl [Ht]; · iexact Ht
    isplitl [Hf] <;> iassumption
  unfold busy
  iintro ⟨⟨Hx, Ht⟩, ⟨Hx', Hf⟩, HO⟩
  rw [WP_bind]
  iapply (compute_both c v (n + 1)) $$ [Hx Hx' Ho Hz]
  · isplitl [Hx]; · iexact Hx
    isplitl [Hx']; · iexact Hx'
    isplitl [Ho] <;> iassumption
  iintro ⟨Hx, Hx', Ho, Hz⟩
  iapply (finish_both m K KS more c (n + 1) hn) $$ [Hx Ht Hx' Hf HO]
  · unfold busy
    isplitr; · iexact HR
    isplitl [Hx Ht]
    · isplitl [Hx] <;> iassumption
    isplitl [Hx' Hf]
    · isplitl [Hx'] <;> iassumption
    iexact HO
  iintro ⟨Ht, Hf, HO⟩
  iapply Hk
  isplitl [Ht]; · iexact Ht
  isplitl [Hf]; · iexact Hf
  isplitl [HO]; · iexact HO
  unfold roundOut
  isplitl [Ho]; · iexact Ho
  iexact Hz

/-- The last round. -/
theorem last_round (c : Dev nD) (v : Loaded F) (o : Vec F S1024x1024 .f32) (Q : PUnit → sProp (MM F)) :
    iprop(recs m K KS ∗ ready m c true 7 ∗ stays m c false 6 ∗ owesE c (owed c 7 7 7 6) ∗ outP c o ∗ xcP c)
      ⊢ iprop((stays m c true 7 ∗ stays m c false 6 ∗ owesE c 0
          ∗ outP c (accum (block m (own true c 8)) (roundOut m c v 7 o) (xcat v.x v.idx v.p (ownR v.d 8))) ∗ xcP c -∗ Q ⟨⟩)
        -∗ WP c (lastRound (Memref.whole cc0_stg5_0) v (nxt c)) Q) := by
  unfold lastRound ready stays
  rw [owed_late, ← owed_end c]
  iintro ⟨#HR, ⟨Hx, Hs, Hp⟩, ⟨Hy', Hx', Hf⟩, HO, Ho, Hz⟩ Hk
  rw [WP_bind]
  iapply (side_take m K KS c true 7 7 7 6 (by decide) (owed c 7 8 7 7)
    (wait_lv c (kRdy true) 6 _ _ _ _ _ (lv_rdy c true 6) (by omega) (by omega) (by omega) (by omega) (by omega))) $$ [Hs HO]
  · isplitr; · iexact HR
    isplitl [Hs]; · iexact Hs
    iexact HO
  iintro ⟨Hs, #Hft, HO⟩
  rw [WP_bind]
  iapply (side_send m K KS c true 7 7 7 7 7 7 (by decide) (owed c 8 8 7 7) (owed_sendR c (by omega))) $$ [Hx Hs Hp HO]
  · isplitr; · iexact HR
    isplitl [Hx]; · iexact Hx
    isplitl [Hs]; · iexact Hs
    isplitl [Hp]; · iexact Hp
    isplitr; · iexact Hft
    iexact HO
  iintro ⟨Hx, Hc, Hs, Hp, HO⟩
  rw [WP_bind]
  iapply (compute_both c v 7) $$ [Hx Hx' Ho Hz]
  · isplitl [Hx]; · iexact Hx
    isplitl [Hx']; · iexact Hx'
    isplitl [Ho] <;> iassumption
  iintro ⟨Hx, Hx', Ho, Hz⟩
  rw [WP_bind]
  iapply (side_sent m K KS c true 7 7 7 (by decide) (owed c 8 8 7 7)
    (wait_lv c (kSnd true 7) 7 _ _ _ _ _ (lv_snd c true 7 7) (by omega) (by omega) (by omega) (by omega) (by omega))) $$ [Hx Hc Hp HO]
  · isplitr; · iexact HR
    isplitl [Hx]; · iexact Hx
    isplitl [Hc]; · iexact Hc
    isplitl [Hp] <;> iassumption
  iintro ⟨Hx, Hp, HO⟩
  rw [WP_bind]
  iapply (side_recv m K KS c true 7 8 7 7 7 8 (by decide) (owed c 8 8 7 7)
    (wait_lv c (kRcv true 8) 7 _ _ _ _ _ (lv_rcv c true 8 7) (by omega) (by omega) (by omega) (by omega) (by omega))) $$ [Hs Hp HO]
  · isplitr; · iexact HR
    isplitl [Hs]; · iexact Hs
    isplitl [Hp] <;> iassumption
  iintro ⟨Hy, Hs, Hp, HO⟩
  iapply (block_step c true 8) $$ [Hy Ho Hz]
  · isplitl [Hy]; · iexact Hy
    isplitl [Ho] <;> iassumption
  iintro ⟨Hy, Ho, Hz⟩
  iapply Hk
  isplitl [Hx Hy Hs Hp]
  · isplitl [Hx]; · iexact Hx
    isplitl [Hy]; · iexact Hy
    isplitl [Hs] <;> iassumption
  isplitl [Hy' Hx' Hf]
  · isplitl [Hy']; · iexact Hy'
    isplitl [Hx']; · iexact Hx'
    iexact Hf
  isplitl [HO]; · iexact HO
  unfold roundOut
  isplitl [Ho]; · iexact Ho
  iexact Hz

end Cert.KernelIdeal.Moe
-- ==== Proof.KernelIdeal.Start.lean ====
/- The start of the body: the handshake, the own block into both rings, the first sends, the tokens; then the body as a whole. -/
module

public import proofs.«01_k».proof.Proof.KernelIdeal.RoundSteps

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × CK → ℕ) (KS : Key → ℕ)

/-! ## What a device starts with -/

/-- A side before the handshake. -/
def rest (c : Dev nD) (X : Bool) : sProp (MM F) :=
  iprop((Release.readerAt EK (c, X, true) 0 ∗ ra c X 0
      ∗ dutyTok ER (cell (bwd X c) kBar) 0 (barDuty X))
    ∗ (reached ER (cell (bwd X c) kBar) 0 ∗ reached ER (cell (bwd X c) (kRdy X)) 0 ∗ reached ER (cell c (kRcv X 1)) 0)
    ∗ stocks c X 0 0 0 0
    ∗ (av c X 0 ∗ av c X 1 ∗ rv c X 0) ∗ (aS c X 0 ∗ aS c X 1 ∗ rs c X 0 ∗ rs c X 1))

/-- The arguments' staged blocks. -/
def ins (c : Dev nD) : sProp (MM F) :=
  iprop((((c : Thread nD τ).loc cc0_stg0_0) ↦{fullShare} (stg0 m c : Buf (Elt F) ((c : Thread nD τ).loc cc0_stg0_0)))
    ∗ (((c : Thread nD τ).loc cc0_stg1_0) ↦{fullShare} (stg1 m c : Buf (Elt F) ((c : Thread nD τ).loc cc0_stg1_0)))
    ∗ (((c : Thread nD τ).loc cc0_stg2_0) ↦{fullShare} (stg2 m c : Buf (Elt F) ((c : Thread nD τ).loc cc0_stg2_0)))
    ∗ (((c : Thread nD τ).loc cc0_stg4_0) ↦{fullShare} (stg4 m c : Buf (Elt F) ((c : Thread nD τ).loc cc0_stg4_0))))
def in3 (c : Dev nD) : sProp (MM F) :=
  iprop(((c : Thread nD τ).loc cc0_stg3_0) ↦{fullShare} (stg3 m c : Buf (Elt F) ((c : Thread nD τ).loc cc0_stg3_0)))

/-- What a device works with: its tokens, their experts and their probabilities. -/
def loaded (c : Dev nD) : Loaded F :=
  ⟨c, k0_pay5 (stg0 m c), k0_pay7 (stg2 m c), k0_pay8 (k0_pay6 (stg0 m c) (stg1 m c)) (k0_pay7 (stg2 m c))⟩

/-! ## The steps -/

theorem put_own (c : Dev nD) (X : Bool) (v : FVec F S1x2048x1024 .fp8e4m3) (Q : PUnit → sProp (MM F)) :
    free c X 0 ⊢ iprop((holds c X 0 fullShare v -∗ Q ⟨⟩) -∗ WP c (putOwn X v) Q) := by
  unfold free Release.slot putOwn
  iintro ⟨%f, H⟩ Hk
  rw [WP_bind]
  iapply (wp_load_rect 𝒱₀ (c : Thread nD τ) none Set.univ (m := comm X) (r := slotRect 0)
    (S := slotSet X 0) (q := fullShare) (f := f) (Finset.Subset.refl _)) $$ [H]
  · iexact H
  iintro H
  rw [wp_ret]
  imodintro
  iapply (wp_store 𝒱₀ (c : Thread nD τ) none Set.univ (m := comm X) (r := slotRect 0)
    (w := v) (Mk := Finset.univ) (S := slotSet X 0) (f := f) (View.setOn_subset_set _ _)) $$ [H]
  · iexact H
  iintro H
  rw [wp_ret]
  imodintro
  iapply Hk
  unfold holds
  iexists _
  isplitr
  rotate_left
  · iexact H
  · ipureintro; exact View.read_write_univ _ _

/-- The handshake. -/
theorem handshake (c : Dev nD) (Q : PUnit → sProp (MM F)) :
    iprop(recs m K KS ∗ (free c true 1 ∗ rest c true) ∗ (free c false 1 ∗ rest c false)
        ∗ atPos ER (cell c kBar) 0 ∅ 0 ∗ cred (tallyAt (cell c kBar) 0 2) ∗ owesE c (O₀ c))
      ⊢ iprop((atPos ER (cell c kBar) 1 ∅ 0
          ∗ (stocks c true 0 0 0 0 ∗ places c true 0 0 0 ∗ fact (fwd true c) true 0)
          ∗ (stocks c false 0 0 0 0 ∗ places c false 0 0 0 ∗ fact (fwd false c) false 0) ∗ owesE c (owed c 0 0 0 0) -∗ Q ⟨⟩)
        -∗ WP c (barrierStep (prv c) (nxt c)) Q) := by
  unfold barrierStep rest places
  iintro ⟨#HR, ⟨Hx, ⟨Hr1, Hr0, Hd⟩, ⟨#Hb, #Hy, #Hv⟩, Hs, Hp, Hp'⟩, ⟨Gx, ⟨Gr1, Gr0, Gd⟩, ⟨#Gb, #Gy, #Gv⟩, Gs, Gp, Gp'⟩, Ha, Hc, HO⟩ Hk
  rw [WP_bind]
  iapply (hello m K KS c true (owed c 0 0 0 0 + tallyAt (cell (nxt c) kBar) 0 1) rfl) $$ [Hx Hr1 Hd HO]
  · isplitr; · iexact HR
    isplitl [Hx]; · iexact Hx
    isplitl [Hr1]; · iexact Hr1
    isplitl [Hd]; · iexact Hd
    isplitr; · iexact Hv
    isplitr; · iexact Hb
    iexact HO
  iintro ⟨Hr1, #Hf, HO⟩
  rw [WP_bind]
  iapply (hello m K KS c false (owed c 0 0 0 0) rfl) $$ [Gx Gr1 Gd HO]
  · isplitr; · iexact HR
    isplitl [Gx]; · iexact Gx
    isplitl [Gr1]; · iexact Gr1
    isplitl [Gd]; · iexact Gd
    isplitr; · iexact Gv
    isplitr; · iexact Gb
    iexact HO
  iintro ⟨Gr1, #Gf, HO⟩
  iapply (met m K KS c (owed c 0 0 0 0) (wait_lv c kBar 0 _ _ _ _ _ (lv_bar c 0) (by omega) (by omega) (by omega) (by omega) (by omega))) $$ [Ha Hc HO]
  · isplitr; · iexact HR
    isplitl [Ha]; · iexact Ha
    isplitl [Hc] <;> iassumption
  iintro ⟨Ha, #Hf', #Gf', HO⟩
  iapply Hk
  isplitl [Ha]; · iexact Ha
  isplitl [Hs Hp Hp' Hr0 Hr1]
  · isplitl [Hs]; · iexact Hs
    isplitl
    · isplitl [Hr0 Hr1]
      · isplitl [Hr0]; · iexact Hr0
        isplitl [Hr1]; · iexact Hr1
        isplitr; · iexact Hf
        iexact Hy
      isplitl [Hp]; · iexact Hp
      iexact Hp'
    iexact Hf'
  isplitl [Gs Gp Gp' Gr0 Gr1]
  · isplitl [Gs]; · iexact Gs
    isplitl
    · isplitl [Gr0 Gr1]
      · isplitl [Gr0]; · iexact Gr0
        isplitl [Gr1]; · iexact Gr1
        isplitr; · iexact Gf
        iexact Gy
      isplitl [Gp]; · iexact Gp
      iexact Gp'
    iexact Gf'
  iexact HO

/-- The handshake, the own block into both rings, the first sends. -/
theorem start_ring (c : Dev nD) (Q : PUnit → sProp (MM F)) :
    iprop(recs m K KS ∗ (free c true 0 ∗ free c true 1 ∗ rest c true) ∗ (free c false 0 ∗ free c false 1 ∗ rest c false)
        ∗ atPos ER (cell c kBar) 0 ∅ 0 ∗ cred (tallyAt (cell c kBar) 0 2) ∗ owesE c (O₀ c) ∗ in3 m c)
      ⊢ iprop((atPos ER (cell c kBar) 1 ∅ 0 ∗ busy m c true 0 ∗ busy m c false 0 ∗ owesE c (owed c 1 1 0 0) ∗ in3 m c -∗ Q ⟨⟩)
        -∗ WP c (startRing (Memref.whole cc0_stg3_0) c (prv c) (nxt c) (prv c) (nxt c)) Q) := by
  have h3 : ((Memref.whole cc0_stg3_0 : Memref sig .tc .vmem S4x512x1024 .bf16).access (Rect.unit (s := S4x512x1024) ![0, 0, 0]
      S4x512x1024.size inb_S4x512x1024_S4x512x1024_0_0_0)).read (Elt F) (stg3 m c) = stg3 m c :=
    Memref.read_access_unit_zero (Elt F) cc0_stg3_0 (by funext a; fin_cases a <;> rfl) _ _
  unfold startRing in3 busy
  iintro ⟨#HR, ⟨Hx, Hx1, Hs⟩, ⟨Gx, Gx1, Gs⟩, Ha, Hc, HO, Hw⟩ Hk
  rw [WP_bind]
  iapply (handshake m K KS c) $$ [Hx1 Hs Gx1 Gs Ha Hc HO]
  · isplitr; · iexact HR
    isplitl [Hx1 Hs]
    · isplitl [Hx1] <;> iassumption
    isplitl [Gx1 Gs]
    · isplitl [Gx1] <;> iassumption
    isplitl [Ha]; · iexact Ha
    isplitl [Hc] <;> iassumption
  iintro ⟨Ha, ⟨Hs, Hp, #Hf⟩, ⟨Gs, Gp, #Gf⟩, HO⟩
  rw [WP_bind]
  iapply (wp_load_rect 𝒱₀ (c : Thread nD τ) none Set.univ (m := Memref.whole cc0_stg3_0)
    (r := Rect.unit (s := S4x512x1024) ![0, 0, 0] S4x512x1024.size inb_S4x512x1024_S4x512x1024_0_0_0) (S := Finset.univ) (q := fullShare)
    (f := stg3 m c) (Finset.subset_univ _)) $$ [Hw]
  · iexact Hw
  iintro Hw
  rw [h3, wp_ret]
  imodintro
  rw [WP_bind]
  iapply (put_own c true) $$ Hx
  iintro Hx
  rw [WP_bind]
  iapply (put_own c false) $$ Gx
  iintro Gx
  rw [WP_bind]
  iapply (side_send m K KS c true 0 0 0 0 0 0 (by decide) (owed c 1 0 0 0) (owed_sendR c (by omega))) $$ [Hx Hs Hp HO]
  · isplitr; · iexact HR
    isplitl [Hx]; · iexact Hx
    isplitl [Hs]; · iexact Hs
    isplitl [Hp]; · iexact Hp
    isplitr; · iexact Hf
    iexact HO
  iintro ⟨Hx, Hc, Hs, Hp, HO⟩
  iapply (side_send m K KS c false 0 0 0 0 0 0 (by decide) (owed c 1 1 0 0) (owed_sendL c (by omega))) $$ [Gx Gs Gp HO]
  · isplitr; · iexact HR
    isplitl [Gx]; · iexact Gx
    isplitl [Gs]; · iexact Gs
    isplitl [Gp]; · iexact Gp
    isplitr; · iexact Gf
    iexact HO
  iintro ⟨Gx, Gc, Gs, Gp, HO⟩
  iapply Hk
  isplitl [Ha]; · iexact Ha
  isplitl [Hx Hc Hs Hp]
  · isplitl [Hx]; · iexact Hx
    isplitl [Hc]; · iexact Hc
    isplitl [Hs] <;> iassumption
  isplitl [Gx Gc Gs Gp]
  · isplitl [Gx]; · iexact Gx
    isplitl [Gc]; · iexact Gc
    isplitl [Gs] <;> iassumption
  isplitl [HO]; · iexact HO
  iexact Hw

/-- The router and the shared expert. -/
theorem start_tokens (c : Dev nD) (o : Vec F S1024x1024 .f32) (Q : Loaded F → sProp (MM F)) :
    iprop(ins m c ∗ outP c o)
      ⊢ iprop((ins m c ∗ outP c (k0_pay9 (k0_pay5 (stg0 m c)) (stg4 m c)) -∗ Q (loaded m c))
        -∗ WP c (startTokens (Memref.whole cc0_stg0_0) (Memref.whole cc0_stg1_0) (Memref.whole cc0_stg2_0) (Memref.whole cc0_stg4_0)
            (Memref.whole cc0_stg5_0) c) Q) := by
  have h0 : ((Memref.whole cc0_stg0_0 : Memref sig .tc .vmem S1024x512 .bf16).access (Rect.unit (s := S1024x512) ![0, 0]
      S1024x512.size inb_S1024x512_S1024x512_0_0)).read (Elt F) (stg0 m c) = stg0 m c :=
    Memref.read_access_unit_zero (Elt F) cc0_stg0_0 (by funext a; fin_cases a <;> rfl) _ _
  have h1 : ((Memref.whole cc0_stg1_0 : Memref sig .tc .vmem S512x64 .bf16).access (Rect.unit (s := S512x64) ![0, 0]
      S512x64.size inb_S512x64_S512x64_0_0)).read (Elt F) (stg1 m c) = stg1 m c :=
    Memref.read_access_unit_zero (Elt F) cc0_stg1_0 (by funext a; fin_cases a <;> rfl) _ _
  have h2 : ((Memref.whole cc0_stg2_0 : Memref sig .tc .vmem S1024x1 .i32).access (Rect.unit (s := S1024x1) ![0, 0]
      S1024x1.size inb_S1024x1_S1024x1_0_0)).read (Elt F) (stg2 m c) = stg2 m c :=
    Memref.read_access_unit_zero (Elt F) cc0_stg2_0 (by funext a; fin_cases a <;> rfl) _ _
  have h4 : ((Memref.whole cc0_stg4_0 : Memref sig .tc .vmem S512x1024 .bf16).access (Rect.unit (s := S512x1024) ![0, 0]
      S512x1024.size inb_S512x1024_S512x1024_0_0)).read (Elt F) (stg4 m c) = stg4 m c :=
    Memref.read_access_unit_zero (Elt F) cc0_stg4_0 (by funext a; fin_cases a <;> rfl) _ _
  have hs : ∀ w, ((Memref.whole cc0_stg5_0 : Memref sig .tc .vmem S1024x1024 .f32).access oRect).write (Elt F) o w Finset.univ = w :=
    fun w => Memref.write_access_unit_zero_univ (Elt F) cc0_stg5_0 (by funext a; fin_cases a <;> rfl) _ o w
  unfold startTokens ins outP
  iintro ⟨⟨H0, H1, H2, H4⟩, Ho⟩ Hk
  rw [WP_bind]
  iapply (wp_load_rect 𝒱₀ (c : Thread nD τ) none Set.univ (m := Memref.whole cc0_stg0_0)
    (r := Rect.unit (s := S1024x512) ![0, 0] S1024x512.size inb_S1024x512_S1024x512_0_0) (S := Finset.univ) (q := fullShare)
    (f := stg0 m c) (Finset.subset_univ _)) $$ [H0]
  · iexact H0
  iintro H0
  rw [h0, wp_ret]
  imodintro
  rw [WP_bind]
  iapply (wp_load_rect 𝒱₀ (c : Thread nD τ) none Set.univ (m := Memref.whole cc0_stg1_0)
    (r := Rect.unit (s := S512x64) ![0, 0] S512x64.size inb_S512x64_S512x64_0_0) (S := Finset.univ) (q := fullShare)
    (f := stg1 m c) (Finset.subset_univ _)) $$ [H1]
  · iexact H1
  iintro H1
  rw [h1, wp_ret]
  imodintro
  rw [WP_bind]
  iapply (wp_load_rect 𝒱₀ (c : Thread nD τ) none Set.univ (m := Memref.whole cc0_stg2_0)
    (r := Rect.unit (s := S1024x1) ![0, 0] S1024x1.size inb_S1024x1_S1024x1_0_0) (S := Finset.univ) (q := fullShare)
    (f := stg2 m c) (Finset.subset_univ _)) $$ [H2]
  · iexact H2
  iintro H2
  rw [h2, wp_ret]
  imodintro
  rw [WP_bind]
  iapply (wp_load_rect 𝒱₀ (c : Thread nD τ) none Set.univ (m := Memref.whole cc0_stg4_0)
    (r := Rect.unit (s := S512x1024) ![0, 0] S512x1024.size inb_S512x1024_S512x1024_0_0) (S := Finset.univ) (q := fullShare)
    (f := stg4 m c) (Finset.subset_univ _)) $$ [H4]
  · iexact H4
  iintro H4
  rw [h4, wp_ret]
  imodintro
  rw [WP_bind]
  iapply (wp_load_rect 𝒱₀ (c : Thread nD τ) none Set.univ (m := Memref.whole cc0_stg5_0) (r := oRect) (S := Finset.univ) (q := fullShare) (f := o)
    (Finset.subset_univ _)) $$ [Ho]
  · iexact Ho
  iintro Ho
  rw [wp_ret]
  imodintro
  rw [WP_bind]
  iapply (wp_store 𝒱₀ (c : Thread nD τ) none Set.univ (m := Memref.whole cc0_stg5_0) (r := oRect)
    (w := k0_pay9 (k0_pay5 (stg0 m c)) (stg4 m c)) (Mk := Finset.univ) (S := Finset.univ) (f := o) (Finset.subset_univ _)) $$ [Ho]
  · iexact Ho
  iintro Ho
  rw [hs, wp_ret]
  imodintro
  rw [Prog.pure_eq_ret]
  unfold WP
  rw [wp_ret]
  imodintro
  unfold loaded
  iapply Hk
  isplitr [Ho]
  · isplitl [H0]; · iexact H0
    isplitl [H1]; · iexact H1
    isplitl [H2]; · iexact H2
    iexact H4
  iexact Ho

/-! ## The body -/

/-- The output after the shared expert and the own block. -/
def out0 (c : Dev nD) : Vec F S1024x1024 .f32 :=
  accum (block m c) (k0_pay9 (k0_pay5 (stg0 m c)) (stg4 m c)) (xcat (loaded m c).x (loaded m c).idx (loaded m c).p (myWord c))
/-- The output after the rounds up to `n`. -/
def outN (c : Dev nD) : ℕ → Vec F S1024x1024 .f32
  | 0 => out0 m c
  | n + 1 => roundOut m c (loaded m c) (n + 1) (outN c n)
/-- The output at the end. -/
def outEnd (c : Dev nD) : Vec F S1024x1024 .f32 :=
  accum (block m (own true c 8)) (outN m c 7) (xcat (loaded m c).x (loaded m c).idx (loaded m c).p (ownR c 8))

theorem WP_dev (c : Dev nD) {α : Type} (k : Dev nD → Pr F α) (Q : α → sProp (MM F)) :
    WP c (Prog.lift .deviceId >>= k) Q = WP c (k c) Q :=
  wp_deviceId 𝒱₀ (c : Thread nD τ) none Set.univ

/-- A round with both rings sending and both slots offered again. -/
theorem round_step (c : Dev nD) (n : ℕ) (hn : n + 2 ≤ 6) (Q : PUnit → sProp (MM F)) :
    iprop(recs m K KS ∗ ready m c true (n + 1) ∗ ready m c false (n + 1) ∗ owesE c (owed c (n + 1) (n + 1) (n + 1) (n + 1))
        ∗ outP c (outN m c n) ∗ xcP c)
      ⊢ iprop((ready m c true (n + 2) ∗ ready m c false (n + 2) ∗ owesE c (owed c (n + 2) (n + 2) (n + 2) (n + 2))
          ∗ outP c (outN m c (n + 1)) ∗ xcP c -∗ Q ⟨⟩)
        -∗ WP c (midRound (Memref.whole cc0_stg5_0) (loaded m c) true (n + 1) (nxt c) (prv c) (prv c) (nxt c)) Q) :=
  mid_round m K KS true c (loaded m c) n hn (outN m c n) Q

/-- The last round of the left-going ring. -/
theorem round_six (c : Dev nD) (Q : PUnit → sProp (MM F)) :
    iprop(recs m K KS ∗ ready m c true 6 ∗ ready m c false 6 ∗ owesE c (owed c 6 6 6 6) ∗ outP c (outN m c 5) ∗ xcP c)
      ⊢ iprop((ready m c true 7 ∗ stays m c false 6 ∗ owesE c (owed c 7 7 7 6) ∗ outP c (outN m c 6) ∗ xcP c -∗ Q ⟨⟩)
        -∗ WP c (midRound (Memref.whole cc0_stg5_0) (loaded m c) false 6 (nxt c) (prv c) (prv c) (nxt c)) Q) :=
  mid_round m K KS false c (loaded m c) 5 (by decide) (outN m c 5) Q

/-- The end of round 0. -/
theorem finish_zero (c : Dev nD) (Q : PUnit → sProp (MM F)) :
    iprop(recs m K KS ∗ busy m c true 0 ∗ busy m c false 0 ∗ owesE c (owed c 1 1 0 0))
      ⊢ iprop((ready m c true 1 ∗ ready m c false 1 ∗ owesE c (owed c 1 1 1 1) -∗ Q ⟨⟩)
        -∗ WP c (finishBoth true 0 (prv c) (nxt c)) Q) :=
  finish_both m K KS true c 0 (by decide) Q

theorem prog_sound (c : Dev nD) (o : Vec F S1024x1024 .f32) (Q : PUnit → sProp (MM F)) :
    iprop(recs m K KS ∗ (free c true 0 ∗ free c true 1 ∗ rest c true) ∗ (free c false 0 ∗ free c false 1 ∗ rest c false)
        ∗ atPos ER (cell c kBar) 0 ∅ 0 ∗ cred (tallyAt (cell c kBar) 0 2) ∗ owesE c (O₀ c) ∗ ins m c ∗ in3 m c ∗ outP c o ∗ xcP c)
      ⊢ iprop((atPos ER (cell c kBar) 1 ∅ 0 ∗ stays m c true 7 ∗ stays m c false 6 ∗ owesE c 0 ∗ ins m c ∗ in3 m c
          ∗ outP c (outEnd m c) ∗ xcP c -∗ Q ⟨⟩)
        -∗ WP c (prog (Memref.whole cc0_stg0_0) (Memref.whole cc0_stg1_0) (Memref.whole cc0_stg2_0) (Memref.whole cc0_stg3_0)
            (Memref.whole cc0_stg4_0) (Memref.whole cc0_stg5_0) (fun d _ => nxt d) (fun d _ => prv d)) Q) := by
  unfold prog
  iintro ⟨#HR, Ht, Hf, Ha, Hc, HO, Hi, Hi3, Ho, Hz⟩ Hk
  rw [WP_dev, WP_bind]
  iapply (start_ring m K KS c) $$ [Ht Hf Ha Hc HO Hi3]
  · isplitr; · iexact HR
    isplitl [Ht]; · iexact Ht
    isplitl [Hf]; · iexact Hf
    isplitl [Ha]; · iexact Ha
    isplitl [Hc]; · iexact Hc
    isplitl [HO] <;> iassumption
  iintro ⟨Ha, Ht, Hf, HO, Hi3⟩
  rw [WP_bind]
  iapply (start_tokens m c o) $$ [Hi Ho]
  · isplitl [Hi] <;> iassumption
  iintro ⟨Hi, Ho⟩
  unfold busy
  icases Ht with ⟨Hx, Ht⟩
  rw [WP_bind]
  iapply (block_step c true 0) $$ [Hx Ho Hz]
  · isplitl [Hx]; · iexact Hx
    isplitl [Ho] <;> iassumption
  iintro ⟨Hx, Ho, Hz⟩
  rw [WP_bind]
  iapply (finish_zero m K KS c) $$ [Hx Ht Hf HO]
  · unfold busy
    isplitr; · iexact HR
    isplitl [Hx Ht]
    · isplitl [Hx] <;> iassumption
    isplitl [Hf]; · iexact Hf
    iexact HO
  iintro ⟨Ht, Hf, HO⟩
  rw [WP_bind]
  iapply (round_step m K KS c 0 (by decide)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  rw [WP_bind]
  iapply (round_step m K KS c 1 (by decide)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  rw [WP_bind]
  iapply (round_step m K KS c 2 (by decide)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  rw [WP_bind]
  iapply (round_step m K KS c 3 (by decide)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  rw [WP_bind]
  iapply (round_step m K KS c 4 (by decide)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  rw [WP_bind]
  iapply (round_six m K KS c) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  iapply (last_round m K KS c (loaded m c) (outN m c 6)) $$ [Ht Hf HO Ho Hz]
  · isplitr; · iexact HR
    isplitl [Ht]; · iexact Ht
    isplitl [Hf]; · iexact Hf
    isplitl [HO]; · iexact HO
    isplitl [Ho]; · iexact Ho
    iexact Hz
  iintro ⟨Ht, Hf, HO, Ho, Hz⟩
  iapply Hk
  isplitl [Ha]; · iexact Ha
  isplitl [Ht]; · iexact Ht
  isplitl [Hf]; · iexact Hf
  isplitl [HO]; · iexact HO
  isplitl [Hi]; · iexact Hi
  isplitl [Hi3]; · iexact Hi3
  isplitl [Ho]; · iexact Ho
  iexact Hz

end Cert.KernelIdeal.Moe
-- ==== Proof.KernelIdeal.Body.lean ====
/- The body's obligation: what a device holds before and after its one pass, and every counter closed at its end. -/
module

public import proofs.«01_k».proof.Proof.KernelIdeal.Start
public import proofs.«01_k».proof.Proof.Gen.KernelIdeal.Launch
public import proofs.«01_k».proof.Proof.Gen.KernelIdeal.Points

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (K : Dev nD × CK → ℕ) (KS : Key → ℕ)

/-! ## The cells close -/

/-- A side's own counters at zero. -/
def zeros (c : Dev nD) (X : Bool) : sProp (MM F) :=
  iprop(semVal (cell c (kRdy X)) 0 ∗ semVal (cell c (some (X, some (true, false)))) 0 ∗ semVal (cell c (some (X, some (true, true)))) 0
    ∗ semVal (cell c (some (X, some (false, false)))) 0 ∗ semVal (cell c (some (X, some (false, true)))) 0)

theorem close_one (c : Dev nD) (k : CK) (r : ℕ) (h : (match k with
    | none => 1
    | some (_, none) => 1
    | some (X, some (false, b)) => if X || !b then 4 else 3
    | some (X, some (true, b)) => if X || b then 4 else 3) ≤ r) :
    iprop(recs m K KS ∗ atPos ER (cell c k) r ∅ 0) ⊢ iprop(|={Set.univ}=> semVal (cell c k) 0) := by
  iintro ⟨#HR, Ha⟩
  ihave #HI := (recs_cell m K KS c k) $$ HR
  iapply (Rounds.cell_close ER (Rd m) (Set.mem_univ (K (c, k))) (fun h => h) (R := r) (fun r' hr => duties_later m c k r' (h.trans hr)))
  isplitr; · iexact HI
  iexact Ha

theorem close_rcv (c : Dev nD) (X : Bool) (n r : ℕ) (b : Bool) (hb : par (n + 1) = b) (hr : n / 2 = r) (h : (if X || b then 4 else 3) ≤ r) :
    iprop(recs m K KS ∗ av c X n) ⊢ iprop(|={Set.univ}=> semVal (cell c (some (X, some (true, b)))) 0) := by
  subst hb hr; exact close_one m K KS c (kRcv X (n + 1)) (n / 2) h

theorem close_snd (c : Dev nD) (X : Bool) (n r : ℕ) (b : Bool) (hb : par n = b) (hr : n / 2 = r) (h : (if X || !b then 4 else 3) ≤ r) :
    iprop(recs m K KS ∗ aS c X n) ⊢ iprop(|={Set.univ}=> semVal (cell c (some (X, some (false, b)))) 0) := by
  subst hb hr; exact close_one m K KS c (kSnd X n) (n / 2) h

/-- The right-going side's cells at the end. -/
theorem close_right (c : Dev nD) :
    iprop(recs m K KS ∗ stocks c true 8 8 7 7 ∗ places c true 7 8 8) ⊢ iprop(|={Set.univ}=> zeros c true) := by
  have e : (rp c true 7 : sProp (MM F)) = atPos ER (cell c (kRdy true)) 1 ∅ 0 := by unfold rp; rw [if_neg (by decide)]
  unfold stocks places zeros
  rw [e]
  iintro ⟨#HR, ⟨-, -, -, -, H0⟩, -, ⟨H1, H2, -⟩, H3, H4, -⟩
  imod (close_one m K KS c (kRdy true) 1 (by decide)) $$ [H0] with H0
  · isplitr; · iexact HR
    iexact H0
  imod (close_rcv m K KS c true 8 4 true (by decide) (by decide) (by decide)) $$ [H1] with H1
  · isplitr; · iexact HR
    iexact H1
  imod (close_rcv m K KS c true 9 4 false (by decide) (by decide) (by decide)) $$ [H2] with H2
  · isplitr; · iexact HR
    iexact H2
  imod (close_snd m K KS c true 8 4 false (by decide) (by decide) (by decide)) $$ [H3] with H3
  · isplitr; · iexact HR
    iexact H3
  imod (close_snd m K KS c true 9 4 true (by decide) (by decide) (by decide)) $$ [H4] with H4
  · isplitr; · iexact HR
    iexact H4
  imodintro
  isplitl [H0]; · iexact H0
  isplitl [H2]; · iexact H2
  isplitl [H1]; · iexact H1
  isplitl [H3]; · iexact H3
  iexact H4

/-- The left-going side's cells at the end. -/
theorem close_left (c : Dev nD) :
    iprop(recs m K KS ∗ stocks c false 7 7 6 6 ∗ places c false 6 7 7) ⊢ iprop(|={Set.univ}=> zeros c false) := by
  have e : (rp c false 6 : sProp (MM F)) = atPos ER (cell c (kRdy false)) 1 ∅ 0 := by unfold rp; rw [if_neg (by decide)]
  unfold stocks places zeros
  rw [e]
  iintro ⟨#HR, ⟨-, -, -, -, H0⟩, -, ⟨H1, H2, -⟩, H3, H4, -⟩
  imod (close_one m K KS c (kRdy false) 1 (by decide)) $$ [H0] with H0
  · isplitr; · iexact HR
    iexact H0
  imod (close_rcv m K KS c false 7 3 false (by decide) (by decide) (by decide)) $$ [H1] with H1
  · isplitr; · iexact HR
    iexact H1
  imod (close_rcv m K KS c false 8 4 true (by decide) (by decide) (by decide)) $$ [H2] with H2
  · isplitr; · iexact HR
    iexact H2
  imod (close_snd m K KS c false 7 3 true (by decide) (by decide) (by decide)) $$ [H3] with H3
  · isplitr; · iexact HR
    iexact H3
  imod (close_snd m K KS c false 8 4 false (by decide) (by decide) (by decide)) $$ [H4] with H4
  · isplitr; · iexact HR
    iexact H4
  imodintro
  isplitl [H0]; · iexact H0
  isplitl [H1]; · iexact H1
  isplitl [H2]; · iexact H2
  isplitl [H4]; · iexact H4
  iexact H3

/-- Two held slots of either parity are the buffer. -/
theorem slots_whole (c : Dev nD) (X : Bool) (n : ℕ) (w w' : Vec F S1x2048x1024 .fp8e4m3) :
    iprop(holds c X n fullShare w ∗ holds c X (n + 1) fullShare w')
      ⊢ iprop(∃ f, ((comm X).view.loc (c : Thread nD τ) ↦{fullShare} f)) := by
  refine (BIClass.sep_mono (holds_free c X n w) (holds_free c X (n + 1) w')).trans ?_
  rcases (by omega : n % 2 = 0 ∨ n % 2 = 1) with h | h
  · rw [free_congr c X (show n % 2 = 0 % 2 by omega), free_congr c X (show (n + 1) % 2 = 1 % 2 by omega)]
    exact whole_join c X
  · rw [free_congr c X (show n % 2 = 1 % 2 by omega), free_congr c X (show (n + 1) % 2 = 0 % 2 by omega)]
    refine BIBase.Entails.trans ?_ (whole_join c X)
    iintro ⟨H1, H2⟩
    isplitl [H2] <;> iassumption

/-! ## The proof data -/

/-- What a device starts with, besides its buffers. -/
def start (c : Dev nD) : sProp (MM F) :=
  iprop((∃ K KS, recs m K KS) ∗ rest c true ∗ rest c false ∗ atPos ER (cell c kBar) 0 ∅ 0 ∗ cred (tallyAt (cell c kBar) 0 2))
/-- A ring buffer, whatever is in it. -/
def ringBuf (c : Dev nD) (X : Bool) : sProp (MM F) := iprop(∃ f, ((comm X).view.loc (c : Thread nD τ) ↦{fullShare} f))
def Φ₀ (c : Dev nD) : sProp (MM F) := iprop(start m c ∗ ringBuf c true ∗ ringBuf c false ∗ xcP c)
def Φ₁ (c : Dev nD) : sProp (MM F) :=
  iprop((ringBuf c true ∗ ringBuf c false ∗ xcP c) ∗ zeros c true ∗ zeros c false ∗ semVal (cell c kBar) 0)

def dats (_ : Fin 1) (c : Dev nD) : Dat τ (Elt F) ℕ ℕ UU ℕ cfg0 c where
  A w := m ((cfg0.win w).arr.view.loc (c : Thread nD τ))
  after w _ := match w with
    | ⟨0, _⟩ => stg0 m c
    | ⟨1, _⟩ => stg1 m c
    | ⟨2, _⟩ => stg2 m c
    | ⟨3, _⟩ => stg3 m c
    | ⟨4, _⟩ => stg4 m c
    | ⟨5, _⟩ => outEnd m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem bigSep_W (Φ : Fin cfg0.W → sProp (MM F)) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole (c : Dev nD) (b : Ref sig .tc) (X : b.ty.Contents (Elt F)) :
    (owns (Ix := ℕ) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents, as the obligation has it. -/
def stg (c : Dev nD) (b : Ref sig .tc) (X : b.ty.Contents (Elt F)) : sProp (MM F) :=
  iprop(∃ f : Buf (Elt F) ((c : Thread nD τ).loc b), ⌜f = X⌝ ∗ (((c : Thread nD τ).loc b) ↦{fullShare} f))

theorem stg_elim (c : Dev nD) (b : Ref sig .tc) (X : b.ty.Contents (Elt F)) :
    stg c b X ⊢ (((c : Thread nD τ).loc b) ↦{fullShare} (X : Buf (Elt F) ((c : Thread nD τ).loc b))) := by
  unfold stg
  iintro ⟨%f, %h, H⟩
  subst h
  iexact H
theorem stg_intro (c : Dev nD) (b : Ref sig .tc) (X : b.ty.Contents (Elt F)) :
    (((c : Thread nD τ).loc b) ↦{fullShare} (X : Buf (Elt F) ((c : Thread nD τ).loc b))) ⊢ stg c b X := by
  unfold stg
  iintro H
  iexists X
  isplitr; · (ipureintro; rfl)
  iexact H

theorem before_0 (c : Dev nD) (d) : (dats m 0 c).before (0 : Fin 6) t₀ d = stg0 m c := by unfold Dat.before; rw [if_pos (fetch0_0 t₀)]; rfl
theorem before_1 (c : Dev nD) (d) : (dats m 0 c).before (1 : Fin 6) t₀ d = stg1 m c := by unfold Dat.before; rw [if_pos (fetch0_1 t₀)]; rfl
theorem before_2 (c : Dev nD) (d) : (dats m 0 c).before (2 : Fin 6) t₀ d = stg2 m c := by unfold Dat.before; rw [if_pos (fetch0_2 t₀)]; rfl
theorem before_3 (c : Dev nD) (d) : (dats m 0 c).before (3 : Fin 6) t₀ d = stg3 m c := by unfold Dat.before; rw [if_pos (fetch0_3 t₀)]; rfl
theorem before_4 (c : Dev nD) (d) : (dats m 0 c).before (4 : Fin 6) t₀ d = stg4 m c := by unfold Dat.before; rw [if_pos (fetch0_4 t₀)]; rfl

/-- What the pass is given, and what it gives back. -/
def bodyPre (c : Dev nD) : sProp (MM F) :=
  iprop(Φ₀ m c ∗ (dats m 0 c).owesAt 0 t₀.castSucc
    ∗ (∃ d, stg c cc0_stg0_0 ((dats m 0 c).before (0 : Fin 6) t₀ d)) ∗ (∃ d, stg c cc0_stg1_0 ((dats m 0 c).before (1 : Fin 6) t₀ d))
    ∗ (∃ d, stg c cc0_stg2_0 ((dats m 0 c).before (2 : Fin 6) t₀ d)) ∗ (∃ d, stg c cc0_stg3_0 ((dats m 0 c).before (3 : Fin 6) t₀ d))
    ∗ (∃ d, stg c cc0_stg4_0 ((dats m 0 c).before (4 : Fin 6) t₀ d)) ∗ (∃ d, stg c cc0_stg5_0 ((dats m 0 c).before (5 : Fin 6) t₀ d)))
def bodyPost (c : Dev nD) : sProp (MM F) :=
  iprop(Φ₁ c ∗ (dats m 0 c).owesAt 0 t₀.succ
    ∗ stg c cc0_stg0_0 (stg0 m c) ∗ stg c cc0_stg1_0 (stg1 m c) ∗ stg c cc0_stg2_0 (stg2 m c) ∗ stg c cc0_stg3_0 (stg3 m c)
    ∗ stg c cc0_stg4_0 (stg4 m c) ∗ stg c cc0_stg5_0 (outEnd m c))

/-- The end of the pass. -/
theorem body_end (c : Dev nD) :
    iprop(recs m K KS ∗ atPos ER (cell c kBar) 1 ∅ 0 ∗ stays m c true 7 ∗ stays m c false 6 ∗ owesE c 0 ∗ ins m c ∗ in3 m c
        ∗ outP c (outEnd m c) ∗ xcP c) ⊢ iprop(|={Set.univ}=> bodyPost m c) := by
  unfold stays
  iintro ⟨#HR, Ha, ⟨Hx, Hy, Hs, Hp⟩, ⟨Gx, Gy, Gs, Gp⟩, HO, Hi, Hi3, Ho, Hz⟩
  imod (close_right m K KS c) $$ [Hs Hp] with Hc
  · isplitr; · iexact HR
    isplitl [Hs] <;> iassumption
  imod (close_left m K KS c) $$ [Gs Gp] with Gc
  · isplitr; · iexact HR
    isplitl [Gs] <;> iassumption
  imod (close_one m K KS c kBar 1 (by decide)) $$ [Ha] with Ha
  · isplitr; · iexact HR
    iexact Ha
  imodintro
  ihave Hx := (slots_whole c true 7 _ _) $$ [Hx Hy]
  · isplitl [Hx] <;> iassumption
  ihave Gx := (slots_whole c false 6 _ _) $$ [Gx Gy]
  · isplitl [Gx] <;> iassumption
  unfold ins in3 outP owesE
  icases Hi with ⟨H0, H1, H2, H4⟩
  icases HO with ⟨%W, HO⟩
  unfold bodyPost Φ₁ ringBuf Dat.owesAt Pipeline.owesWithin
  rw [show (dats m 0 c).owed t₀.succ = 0 from rfl]
  isplitl [Hx Gx Hz Hc Gc Ha]
  · isplitl [Hx Gx Hz]
    · isplitl [Hx]; · iexact Hx
      isplitl [Gx]; · iexact Gx
      iexact Hz
    isplitl [Hc]; · iexact Hc
    isplitl [Gc]; · iexact Gc
    iexact Ha
  isplitl [HO]
  · iexists W
    isplitr; · ipureintro; exact fun _ _ => Or.inl trivial
    iexact HO
  isplitl [H0]; · iapply (stg_intro c cc0_stg0_0 (stg0 m c)) $$ H0
  isplitl [H1]; · iapply (stg_intro c cc0_stg1_0 (stg1 m c)) $$ H1
  isplitl [H2]; · iapply (stg_intro c cc0_stg2_0 (stg2 m c)) $$ H2
  isplitl [Hi3]; · iapply (stg_intro c cc0_stg3_0 (stg3 m c)) $$ Hi3
  isplitl [H4]; · iapply (stg_intro c cc0_stg4_0 (stg4 m c)) $$ H4
  iapply (stg_intro c cc0_stg5_0 (outEnd m c)) $$ Ho

theorem WP_fupd {α : Type} (c : Dev nD) (p : Pr F α) (Q : α → sProp (MM F)) :
    WP c p (fun a => iprop(|={Set.univ}=> Q a)) ⊢ WP c p Q := by
  exact wp_fupd _ _ _ _ _

/-- The pass on what it is given. -/
theorem sound_body (c : Dev nD) :
    bodyPre m c ⊢ WP c (prog (Memref.whole cc0_stg0_0) (Memref.whole cc0_stg1_0) (Memref.whole cc0_stg2_0) (Memref.whole cc0_stg3_0)
      (Memref.whole cc0_stg4_0) (Memref.whole cc0_stg5_0) (fun d _ => nxt d) (fun d _ => prv d)) (fun _ => bodyPost m c) := by
  refine BIBase.Entails.trans ?_ (WP_fupd c _ _)
  unfold bodyPre Φ₀ start ringBuf Dat.owesAt Pipeline.owesWithin
  rw [show (dats m 0 c).owed t₀.castSucc = O₀ c from rfl]
  iintro ⟨⟨⟨⟨%K, %KS, #HR⟩, Hr, Gr, Ha, Hc⟩, ⟨%f, Hx⟩, ⟨%g, Gx⟩, Hz⟩, ⟨%W, -, HO⟩, ⟨%d0, H0⟩, ⟨%d1, H1⟩, ⟨%d2, H2⟩, ⟨%d3, H3⟩, ⟨%d4, H4⟩, ⟨%d5, H5⟩⟩
  rw [before_0, before_1, before_2, before_3, before_4]
  ihave H0 := (stg_elim c cc0_stg0_0 (stg0 m c)) $$ H0
  ihave H1 := (stg_elim c cc0_stg1_0 (stg1 m c)) $$ H1
  ihave H2 := (stg_elim c cc0_stg2_0 (stg2 m c)) $$ H2
  ihave H3 := (stg_elim c cc0_stg3_0 (stg3 m c)) $$ H3
  ihave H4 := (stg_elim c cc0_stg4_0 (stg4 m c)) $$ H4
  ihave H5 := (stg_elim c cc0_stg5_0 _) $$ H5
  ihave Hx := (whole_split c true f) $$ Hx
  ihave Gx := (whole_split c false g) $$ Gx
  icases Hx with ⟨Hx, Hy⟩
  icases Gx with ⟨Gx, Gy⟩
  iapply (prog_sound m K KS c _) $$ [Hr Gr Ha Hc Hx Hy Gx Gy Hz HO H0 H1 H2 H3 H4 H5]
  · isplitr; · iexact HR
    isplitl [Hx Hy Hr]
    · isplitl [Hx]; · iexact Hx
      isplitl [Hy] <;> iassumption
    isplitl [Gx Gy Gr]
    · isplitl [Gx]; · iexact Gx
      isplitl [Gy] <;> iassumption
    isplitl [Ha]; · iexact Ha
    isplitl [Hc]; · iexact Hc
    isplitl [HO]
    · unfold owesE
      iexists W; iexact HO
    isplitl [H0 H1 H2 H4]
    · unfold ins
      isplitl [H0]; · iexact H0
      isplitl [H1]; · iexact H1
      isplitl [H2]; · iexact H2
      iexact H4
    isplitl [H3]; · unfold in3; iexact H3
    isplitl [H5]; · unfold outP; iexact H5
    iexact Hz
  iintro H
  iapply (body_end m K KS c)
  isplitr; · iexact HR
  iexact H

set_option maxRecDepth 16384 in
theorem body_obligation (c : Dev nD) : BodyObligation (dats m 0 c) (defs₀ (F := F)) 𝒱₀ 0 Set.univ := fun t => by
  rw [fin_N0 t]
  rw [bigSep_W, bigSep_W]
  simp only [owns_whole]
  show bodyPre m c ⊢ WP c (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0)
    (Memref.isWhole_whole _) (Memref.whole cc0_stg5_0) (Memref.isWhole_whole _) (comm true) (hcomm true) (comm false) (hcomm false) xc hxc
    cc0_scratch3 cc0_scratch4 cc0_scratch5 cc0_scratch6 cc0_scratch7 cc0_scratch8) (fun _ => bodyPost m c)
  rw [body_eq]
  exact sound_body m c

end Cert.KernelIdeal.Moe
-- ==== Proof.KernelIdeal.Deal.lean ====
/- The launch's ghost state: what the library's element funds, dealt round the ring, and the credits each device waits with. -/
module

public import proofs.«01_k».proof.Proof.KernelIdeal.Body

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-! ## Finite products -/

theorem sep_bool (Φ : Bool → sProp (MM F)) : bigSep Finset.univ Φ = iprop(Φ true ∗ Φ false) :=
  bigSep_univ_eq_bigSepL [true, false] (by decide) (by decide) Φ
theorem sep_fin4 (Φ : Fin 4 → sProp (MM F)) : bigSep Finset.univ Φ = iprop(Φ 0 ∗ Φ 1 ∗ Φ 2 ∗ Φ 3) :=
  bigSep_univ_eq_bigSepL [0, 1, 2, 3] (by decide) (by decide) Φ
theorem sep_ck (Φ : CK → sProp (MM F)) : bigSep Finset.univ Φ
    = iprop(Φ none ∗ (Φ (some (true, none)) ∗ Φ (some (true, some (true, true))) ∗ Φ (some (true, some (true, false)))
          ∗ Φ (some (true, some (false, false))) ∗ Φ (some (true, some (false, true))))
        ∗ (Φ (some (false, none)) ∗ Φ (some (false, some (true, true))) ∗ Φ (some (false, some (true, false)))
          ∗ Φ (some (false, some (false, false))) ∗ Φ (some (false, some (false, true))))) := by
  have e : bigSep Finset.univ Φ = iprop(Φ none ∗ Φ (some (true, none)) ∗ Φ (some (true, some (true, true))) ∗ Φ (some (true, some (true, false))) ∗ Φ (some (true, some (false, false))) ∗ Φ (some (true, some (false, true))) ∗ Φ (some (false, none)) ∗ Φ (some (false, some (true, true))) ∗ Φ (some (false, some (true, false))) ∗ Φ (some (false, some (false, false))) ∗ Φ (some (false, some (false, true)))) :=
    bigSep_univ_eq_bigSepL [none, some (true, none), some (true, some (true, true)), some (true, some (true, false)), some (true, some (false, false)), some (true, some (false, true)), some (false, none), some (false, some (true, true)), some (false, some (true, false)), some (false, some (false, false)), some (false, some (false, true))] (by decide) (by decide) Φ
  rw [e]
  refine BI.Entails.antisymm (show _ ⊢ (_ : sProp (MM F)) from ?_) (show _ ⊢ (_ : sProp (MM F)) from ?_)
  · iintro ⟨H0, H1, H2, H3, H4, H5, H6, H7, H8, H9, Ha⟩
    isplitl [H0]; · iexact H0
    isplitl [H1 H2 H3 H4 H5]
    · isplitl [H1]; · iexact H1
      isplitl [H2]; · iexact H2
      isplitl [H3]; · iexact H3
      isplitl [H4] <;> iassumption
    isplitl [H6]; · iexact H6
    isplitl [H7]; · iexact H7
    isplitl [H8]; · iexact H8
    isplitl [H9] <;> iassumption
  · iintro ⟨H0, ⟨H1, H2, H3, H4, H5⟩, H6, H7, H8, H9, Ha⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Ha

/-- Eight of a kind are at least the first `n`. -/
theorem fin_ico (Φ : ℕ → sProp (MM F)) {n : ℕ} (h : n ≤ 8) : bigSep Finset.univ (fun r : Fin 8 => Φ r) ⊢ bigSep (Finset.Ico 0 n) Φ := by
  have e : bigSep (Finset.univ.map (Fin.valEmbedding (n := 8))) Φ = bigSep Finset.univ (fun r : Fin 8 => Φ r) := bigSep_map _
  rw [← e]
  refine bigSep_subset fun x hx => Finset.mem_map.mpr ?_
  exact ⟨⟨x, lt_of_lt_of_le (Finset.mem_Ico.mp hx).2 h⟩, Finset.mem_univ _, rfl⟩

theorem len_le (X : Bool) : len X ≤ 8 := by cases X <;> decide

/-! ## The element -/

theorem pcell_injective : Function.Injective (fun p : Dev nD × CK => cell p.1 p.2) := by
  rintro ⟨c, k⟩ ⟨c', k'⟩ h
  obtain ⟨h1, h2⟩ := cell_inj h
  exact Prod.ext h1 h2
def ringCells : Finset (GSem nD τ sig) := Finset.univ.map ⟨fun p : Dev nD × CK => cell p.1 p.2, pcell_injective⟩

/-- The tokens of a device's own cells: the handshake's, the credits', the sends', the landings'. -/
def tokK (X : Bool) : Fin 4 → ℕ → CK × ℕ × ℕ
  | 0, n => (kBar, 0, barDuty X + 2 * n)
  | 1, n => (kRdy X, 0, n)
  | 2, n => (kSnd X n, n / 2, 0)
  | 3, n => (kRcv X (n + 1), n / 2, 0)

theorem par_half {n n' : ℕ} (h : par n = par n') (h2 : n / 2 = n' / 2) : n = n' := by
  have := congrArg ofPar h
  rw [ofPar_par', ofPar_par'] at this
  omega

theorem par_half' {n n' : ℕ} (h : par (n + 1) = par (n' + 1)) (h2 : n / 2 = n' / 2) : n = n' := by
  have := congrArg ofPar h
  rw [ofPar_par', ofPar_par'] at this
  omega

theorem tokK_inj {X X' : Bool} {k k' : Fin 4} {n n' : ℕ} (h : tokK X k n = tokK X' k' n') : X = X' ∧ k = k' ∧ n = n' := by
  have h1 : (tokK X k n).1 = (tokK X' k' n').1 := congrArg (·.1) h
  have h2 : (tokK X k n).2.1 = (tokK X' k' n').2.1 := congrArg (·.2.1) h
  have h3 : (tokK X k n).2.2 = (tokK X' k' n').2.2 := congrArg (·.2.2) h
  fin_cases k <;> fin_cases k' <;> simp only [tokK, kBar, kRdy, kSnd, kRcv, Option.some.injEq, Prod.mk.injEq, reduceCtorEq, and_false, and_true,
    Bool.false_eq_true, Bool.true_eq_false, false_and, true_and] at h1 h2 h3
  · refine ⟨?_, rfl, ?_⟩
    · revert h3; cases X <;> cases X' <;> simp [barDuty] <;> omega
    · revert h3; cases X <;> cases X' <;> simp [barDuty] <;> omega
  · exact ⟨h1, rfl, h3⟩
  · exact ⟨h1.1, rfl, par_half h1.2 h2⟩
  · exact ⟨h1.1, rfl, par_half' h1.2 h2⟩

abbrev TI : Type := Dev nD × Bool × Fin 4 × Fin 8
def tokOf (i : TI) : GSem nD τ sig × ℕ × ℕ :=
  (cell i.1 (tokK i.2.1 i.2.2.1 i.2.2.2).1, (tokK i.2.1 i.2.2.1 i.2.2.2).2.1, (tokK i.2.1 i.2.2.1 i.2.2.2).2.2)
theorem tokOf_injective : Function.Injective tokOf := by
  rintro ⟨c, X, k, n⟩ ⟨c', X', k', n'⟩ h
  obtain ⟨h1, h2⟩ := cell_inj (congrArg Prod.fst h)
  obtain ⟨h3, h4, h5⟩ := tokK_inj (X := X) (X' := X') (k := k) (k' := k') (n := n) (n' := n')
    (Prod.ext h2 (Prod.ext (congrArg (·.2.1) h) (congrArg (·.2.2) h)))
  subst h1 h3 h4
  rw [Fin.ext h5]
def ringToks : Finset (GSem nD τ sig × ℕ × ℕ) := Finset.univ.map ⟨tokOf, tokOf_injective⟩

def slots₀ : Release.USlots Key := Release.initSlots Finset.univ 4

/-! ## What each device gets of it -/

def barT (c : Dev nD) (X : Bool) : sProp (MM F) := dutyTok ER (cell c kBar) 0 (barDuty X)
def rdyT (c : Dev nD) (X : Bool) : sProp (MM F) := bigSep (Finset.Ico 0 (len X - 1)) fun j => dutyTok ER (cell c (kRdy X)) 0 j
def sndT (c : Dev nD) (X : Bool) : sProp (MM F) := bigSep (Finset.Ico 0 (len X)) fun r => dutyTok ER (cell c (kSnd X r)) (r / 2) 0
def rcvT (c : Dev nD) (X : Bool) : sProp (MM F) := bigSep (Finset.Ico 0 (len X)) fun r => dutyTok ER (cell c (kRcv X (r + 1))) (r / 2) 0
def wrT (c : Dev nD) (X : Bool) : sProp (MM F) :=
  bigSep (Finset.Ico 0 (len X)) fun r => Release.writeTok EK (c, X, par (r + 1)) (r / 2 + 1)

def mine (c : Dev nD) (X : Bool) : sProp (MM F) := iprop(barT c X ∗ rdyT c X ∗ sndT c X ∗ rcvT c X)
/-- A side's tokens, each with the device that spends it. -/
def dealt (c : Dev nD) (X : Bool) : sProp (MM F) :=
  iprop(barT (bwd X c) X ∗ rdyT (bwd X c) X ∗ sndT c X ∗ rcvT (fwd X c) X ∗ wrT (fwd X c) X)

def turn (X : Bool) : Dev nD ≃ Dev nD := ⟨fwd X, bwd X, bwd_fwd X, fwd_bwd X⟩

theorem deal (X : Bool) : iprop(bigSep Finset.univ (fun c : Dev nD => (mine c X : sProp (MM F))) ∗ bigSep Finset.univ (fun c : Dev nD => wrT c X))
    ⊢ bigSep Finset.univ (fun c : Dev nD => (dealt c X : sProp (MM F))) := by
  unfold mine dealt
  rw [bigSep_sep', bigSep_sep', bigSep_sep', bigSep_sep', bigSep_sep', bigSep_sep', bigSep_sep',
    bigSep_univ_equiv (turn X).symm (fun c : Dev nD => (barT c X : sProp (MM F))),
    bigSep_univ_equiv (turn X).symm (fun c : Dev nD => (rdyT c X : sProp (MM F))),
    bigSep_univ_equiv (turn X) (fun c : Dev nD => (rcvT c X : sProp (MM F))),
    bigSep_univ_equiv (turn X) (fun c : Dev nD => (wrT c X : sProp (MM F)))]
  iintro ⟨⟨H0, H1, H2, H3⟩, H4⟩
  isplitl [H0]; · iexact H0
  isplitl [H1]; · iexact H1
  isplitl [H2]; · iexact H2
  isplitl [H3]; · iexact H3
  iexact H4

/-- A device's own tokens out of the element. -/
theorem toks_mine : bigSep ringToks (fun x => (dutyTok ER x.1 x.2.1 x.2.2 : sProp (MM F)))
    ⊢ bigSep Finset.univ fun c : Dev nD => iprop(mine c true ∗ mine c false) := by
  unfold ringToks
  rw [bigSep_map, bigSep_univ_prod]
  refine bigSep_mono fun c _ => ?_
  rw [bigSep_univ_prod, sep_bool]
  have h (X : Bool) : bigSep Finset.univ (fun i : Fin 4 × Fin 8 => (dutyTok ER (tokOf (c, X, i)).1 (tokOf (c, X, i)).2.1 (tokOf (c, X, i)).2.2 : sProp (MM F)))
      ⊢ mine c X := by
    rw [bigSep_univ_prod, sep_fin4]
    unfold mine
    have h0 : bigSep Finset.univ (fun n : Fin 8 => (dutyTok ER (cell c kBar) 0 (barDuty X + 2 * (n : ℕ)) : sProp (MM F))) ⊢ barT c X :=
      bigSep_elim (Finset.mem_univ (0 : Fin 8))
    have h1 : _ ⊢ (rdyT c X : sProp (MM F)) := fin_ico (fun j => dutyTok ER (cell c (kRdy X)) 0 j) (show len X - 1 ≤ 8 from (Nat.sub_le _ _).trans (len_le X))
    have h2 : _ ⊢ (sndT c X : sProp (MM F)) := fin_ico (fun r => dutyTok ER (cell c (kSnd X r)) (r / 2) 0) (len_le X)
    have h3 : _ ⊢ (rcvT c X : sProp (MM F)) := fin_ico (fun r => dutyTok ER (cell c (kRcv X (r + 1))) (r / 2) 0) (len_le X)
    iintro ⟨H0, H1, H2, H3⟩
    isplitl [H0]; · iapply h0; iexact H0
    isplitl [H1]; · iapply h1; iexact H1
    isplitl [H2]; · iapply h2; iexact H2
    iapply h3; iexact H3
  exact BIClass.sep_mono (h true) (h false)

def wrOf (i : Dev nD × Bool × Fin 8) : Key × ℕ := ((i.1, i.2.1, par (i.2.2 + 1)), i.2.2 / 2)
theorem wrOf_injective : Function.Injective wrOf := by
  rintro ⟨c, X, n⟩ ⟨c', X', n'⟩ h
  have h1 : c = c' := congrArg (·.1.1) h
  have h2 : X = X' := congrArg (·.1.2.1) h
  have h3 : par ((n : ℕ) + 1) = par ((n' : ℕ) + 1) := congrArg (·.1.2.2) h
  have h4 : (n : ℕ) / 2 = (n' : ℕ) / 2 := congrArg (·.2) h
  rw [h1, h2, Fin.ext (par_half' h3 h4)]

/-- The slots' tokens, by the device that reads. -/
theorem toks_wr : bigSep ((Finset.univ : Finset Key) ×ˢ Finset.range 4) (fun x => (Release.writeTok EK x.1 (x.2 + 1) : sProp (MM F)))
    ⊢ bigSep Finset.univ fun c : Dev nD => iprop(wrT c true ∗ wrT c false) := by
  have hs : (Finset.univ.map ⟨wrOf, wrOf_injective⟩ : Finset (Key × ℕ)) ⊆ (Finset.univ : Finset Key) ×ˢ Finset.range 4 := by
    intro x hx
    obtain ⟨i, -, rfl⟩ := Finset.mem_map.mp hx
    refine Finset.mem_product.mpr ⟨Finset.mem_univ _, Finset.mem_range.mpr ?_⟩
    have := i.2.2.isLt
    show (i.2.2 : ℕ) / 2 < 4
    omega
  refine (bigSep_subset hs).trans ?_
  rw [bigSep_map, bigSep_univ_prod]
  refine bigSep_mono fun c _ => ?_
  rw [bigSep_univ_prod, sep_bool]
  have h (X : Bool) : _ ⊢ (wrT c X : sProp (MM F)) := fin_ico (fun r => Release.writeTok EK (c, X, par (r + 1)) (r / 2 + 1)) (len_le X)
  exact BIClass.sep_mono (h true) (h false)

/-! ## The credits -/

theorem creds (c : Dev nD) : (Pipeline.launchCred O₀ c : sProp (MM F))
    ⊢ iprop(cred (tallyAt (cell c kBar) 0 2)
      ∗ (bigSep (Finset.Ico 0 (len true)) (rcred c true) ∗ bigSep (Finset.Ico 0 (len true - 1)) (wcred c true))
      ∗ (bigSep (Finset.Ico 0 (len false)) (rcred c false) ∗ bigSep (Finset.Ico 0 (len false - 1)) (wcred c false))) := by
  have hS (X : Bool) : (Pipeline.launchCred (fun d => owedS X d 0) c : sProp (MM F)) ⊢ bigSep (Finset.Ico 0 (len X)) (rcred c X) := by
    unfold owedS
    rw [Pipeline.launchCred_sum]
    exact bigSep_mono fun r _ => Pipeline.launchCred_tallyAt (sm (kRcv X (r + 1))) (fwd X) (bwd X) (fwd_bwd X) (bwd_fwd X) r N c
  have hR (X : Bool) : (Pipeline.launchCred (fun d => owedR X d 0) c : sProp (MM F)) ⊢ bigSep (Finset.Ico 0 (len X - 1)) (wcred c X) := by
    unfold owedR
    rw [Pipeline.launchCred_sum]
    exact bigSep_mono fun r _ => Pipeline.launchCred_tallyAt (sm (kRdy X)) (bwd X) (fwd X) (bwd_fwd X) (fwd_bwd X) r 1 c
  have hB (X : Bool) : (Pipeline.launchCred (fun d => tallyAt (cell (fwd X d) kBar) 0 1) c : sProp (MM F)) ⊢ cred (tallyAt (cell c kBar) 0 1) :=
    Pipeline.launchCred_tallyAt (sm kBar) (fwd X) (bwd X) (fwd_bwd X) (bwd_fwd X) 0 1 c
  have hsum : (Pipeline.launchCred O₀ c : sProp (MM F))
      = iprop((((((Pipeline.launchCred (fun d => owedS true d 0) c ∗ Pipeline.launchCred (fun d => owedS false d 0) c)
          ∗ Pipeline.launchCred (fun d => owedR true d 0) c) ∗ Pipeline.launchCred (fun d => owedR false d 0) c)
          ∗ Pipeline.launchCred (fun d => tallyAt (cell (fwd true d) kBar) 0 1) c)) ∗ Pipeline.launchCred (fun d => tallyAt (cell (fwd false d) kBar) 0 1) c) := by
    rw [← Pipeline.launchCred_add, ← Pipeline.launchCred_add, ← Pipeline.launchCred_add, ← Pipeline.launchCred_add, ← Pipeline.launchCred_add]
    rfl
  have h2 : iprop(cred (tallyAt (cell c kBar) 0 1) ∗ cred (tallyAt (cell c kBar) 0 1)) ⊢ (cred (tallyAt (cell c kBar) 0 2) : sProp (MM F)) := by
    refine (cred_add _ _).2.trans (Entails.of_eq (congrArg cred ?_))
    exact tallyAt_add _ _ 1 1
  rw [hsum]
  iintro ⟨⟨⟨⟨⟨H1, H2⟩, H3⟩, H4⟩, H5⟩, H6⟩
  ihave H1 := (hS true) $$ H1
  ihave H2 := (hS false) $$ H2
  ihave H3 := (hR true) $$ H3
  ihave H4 := (hR false) $$ H4
  ihave H5 := (hB true) $$ H5
  ihave H6 := (hB false) $$ H6
  isplitl [H5 H6]
  · iapply h2
    isplitl [H5] <;> iassumption
  isplitl [H1 H3]
  · isplitl [H1] <;> iassumption
  isplitl [H2] <;> iassumption

end Cert.KernelIdeal.Moe
-- ==== Proof.KernelIdeal.Run.lean ====
/- The run: the kernel launched on the mesh, and what every final state holds. -/
module

public import proofs.«01_k».proof.Proof.KernelIdeal.Deal
public import Idealize.ShloMosaic.Lib.Pipeline.CollectiveSegs

@[expose] public section

set_option synthInstance.maxSize 4096

noncomputable section

namespace Cert.KernelIdeal.Moe

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
variable (m : (ℓ : Loc nD τ sig) → Buf (Elt F) ℓ) (ρ : Dev nD → PrngReg)

/-! ## Semaphores -/

/-- The kernel's own semaphores, by the cell each is. -/
abbrev ownK : Fin 10 → CK
  | 0 => some (true, none) | 1 => some (true, some (true, true)) | 2 => some (true, some (true, false))
  | 3 => some (true, some (false, false)) | 4 => some (true, some (false, true))
  | 5 => some (false, none) | 6 => some (false, some (true, true)) | 7 => some (false, some (true, false))
  | 8 => some (false, some (false, false)) | 9 => some (false, some (false, true))
abbrev osem (i : Fin 10) : SemLoc sig := sm (ownK i)

theorem ownSemFacts : Pipeline.OwnSemFacts cfg0.spec osem := by decide
theorem share_eq (c : Dev nD) (w : Fin cfg0.W) : (dats m 0 c).share w = fullShare := by unfold Dat.share; split <;> rfl

/-- A side's semaphores at zero, in the cells' order. -/
def sems (c : Dev nD) (X : Bool) : sProp (MM F) :=
  iprop(semVal (cell c (some (X, none))) 0 ∗ semVal (cell c (some (X, some (true, true)))) 0 ∗ semVal (cell c (some (X, some (true, false)))) 0
    ∗ semVal (cell c (some (X, some (false, false)))) 0 ∗ semVal (cell c (some (X, some (false, true)))) 0)

theorem ownSems0_eq (c : Dev nD) : (Pipeline.ownSems0 (Ix := ℕ) (Name := ℕ) (U := UU) (Lvl := ℕ) (Val := Elt F) (τ := τ) osem c : sProp (MM F))
    = iprop(semVal (cell c (ownK 0)) 0 ∗ semVal (cell c (ownK 1)) 0 ∗ semVal (cell c (ownK 2)) 0 ∗ semVal (cell c (ownK 3)) 0
      ∗ semVal (cell c (ownK 4)) 0 ∗ semVal (cell c (ownK 5)) 0 ∗ semVal (cell c (ownK 6)) 0 ∗ semVal (cell c (ownK 7)) 0
      ∗ semVal (cell c (ownK 8)) 0 ∗ semVal (cell c (ownK 9)) 0) := by
  rw [Pipeline.ownSems0_eq_of_list c osem [0, 1, 2, 3, 4, 5, 6, 7, 8, 9] (by decide) (by decide)]; rfl
theorem unscopedSems0_eq (c : Dev nD) : (unscopedSems0 c : sProp (MM F)) = semVal (cell c kBar) 0 := by
  unfold unscopedSems0; rw [bigSep_eq_bigSepL_of_eq [SemLoc.reg barSem] (by decide) (by decide)]; rfl

theorem sems_in (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell c k) 0 : sProp (MM F)) := by
  rw [ownSems0_eq, unscopedSems0_eq, sep_ck]
  iintro ⟨⟨H0, H1, H2, H3, H4, H5, H6, H7, H8, H9⟩, HB⟩
  isplitl [HB]; · iexact HB
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  isplitl [H8]; · iexact H8
  iexact H9

theorem zeros_out (c : Dev nD) : iprop(zeros c true ∗ zeros c false)
    ⊢ (Pipeline.ownSems0 (Ix := ℕ) (Name := ℕ) (U := UU) (Lvl := ℕ) (Val := Elt F) (τ := τ) osem c : sProp (MM F)) := by
  rw [ownSems0_eq]
  unfold zeros
  iintro ⟨⟨H0, H2, H1, H3, H4⟩, H5, H7, H6, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The ghost state at launch -/

def u₀ : UU := (initOf (Pipeline.cells cfgs cellOf_inj) (Pipeline.launchToks cfgs cellOf_inj), initOf ringCells ringToks, slots₀)

/-- The slots' element, in the hands of one device. -/
def slotsAt (c : Dev nD) : sProp (MM F) := if c = 0 then BI.own (EK slots₀) else iprop(emp)

def G (c : Dev nD) : sProp (MM F) :=
  iprop((bigSep Finset.univ fun k : CK => roundState ER (Rd m) (cell c k) 0) ∗ (bigSep Finset.univ fun k : CK => atPos ER (cell c k) 0 ∅ 0)
    ∗ (bigSep Finset.univ fun k : CK => reached ER (cell c k) 0) ∗ (mine c true ∗ mine c false) ∗ slotsAt c)

/-- What a device begins with, its credits aside. -/
def pre (c : Dev nD) (X : Bool) : sProp (MM F) :=
  iprop((Release.readerAt EK (c, X, true) 0 ∗ Release.readerAt EK (c, X, false) 0)
    ∗ (reached ER (cell (bwd X c) kBar) 0 ∗ reached ER (cell (bwd X c) (kRdy X)) 0)
    ∗ (reached ER (cell c (some (X, some (true, true)))) 0 ∗ reached ER (cell c (some (X, some (true, false)))) 0
      ∗ reached ER (cell c (some (X, some (false, false)))) 0 ∗ reached ER (cell c (some (X, some (false, true)))) 0)
    ∗ (atPos ER (cell c (some (X, none))) 0 ∅ 0 ∗ atPos ER (cell c (some (X, some (true, true)))) 0 ∅ 0 ∗ atPos ER (cell c (some (X, some (true, false)))) 0 ∅ 0
      ∗ atPos ER (cell c (some (X, some (false, false)))) 0 ∅ 0 ∗ atPos ER (cell c (some (X, some (false, true)))) 0 ∅ 0)
    ∗ dealt c X)

def known (K : Dev nD × CK → ℕ) (KS : Key → ℕ) : sProp (MM F) :=
  iprop(bigSep Finset.univ (fun p : Dev nD × CK => cellInv ER (Rd m) (K p) (cell p.1 p.2))
    ∗ bigSep Finset.univ (fun k : Key => Release.slotInv EK (KS k) k (free k.1 k.2.1 (ofPar k.2.2))))
instance known_persistent (K : Dev nD × CK → ℕ) (KS : Key → ℕ) : BI.Persistent (known m K KS) := by unfold known; infer_instance

def G' (c : Dev nD) : sProp (MM F) := iprop((∃ K KS, known m K KS) ∗ atPos ER (cell c kBar) 0 ∅ 0 ∗ pre c true ∗ pre c false)

theorem fund_ring : iprop(BI.own (ER (initOf ringCells ringToks)) ∗ BI.own (EK slots₀)) ⊢ (|==> bigSep Finset.univ (G m) : sProp (MM F)) := by
  have hX (Φ : GSem nD τ sig → sProp (MM F)) : bigSep ringCells Φ = bigSep Finset.univ fun c : Dev nD => bigSep Finset.univ fun k : CK => Φ (cell c k) := by
    unfold ringCells; rw [bigSep_map, bigSep_univ_prod]; rfl
  have hs : BI.own (EK slots₀) ⊢ (bigSep Finset.univ fun c : Dev nD => (slotsAt c : sProp (MM F))) := by
    rw [bigSep_univ_at _ (0 : Dev nD), show bigSep (Finset.univ.erase (0 : Dev nD)) (fun c => (slotsAt c : sProp (MM F))) = iprop(emp) from by
      rw [bigSep_congr (Φ := fun c => (slotsAt c : sProp (MM F))) (Ψ := fun _ => (iprop(emp) : sProp (MM F)))
        fun c hc => by unfold slotsAt; rw [if_neg (Finset.mem_erase.mp hc).1]]
      exact bigSep_emp_const _]
    unfold slotsAt
    rw [if_pos rfl]
    iintro H
    isplitl [H]; · iexact H
    iempintro
  have hG : (bigSep Finset.univ (G m) : sProp (MM F)) = iprop((bigSep Finset.univ fun c : Dev nD => bigSep Finset.univ fun k : CK => roundState ER (Rd m) (cell c k) 0)
      ∗ (bigSep Finset.univ fun c : Dev nD => bigSep Finset.univ fun k : CK => atPos ER (cell c k) 0 ∅ 0)
      ∗ (bigSep Finset.univ fun c : Dev nD => bigSep Finset.univ fun k : CK => reached ER (cell c k) 0)
      ∗ (bigSep Finset.univ fun c : Dev nD => iprop(mine c true ∗ mine c false)) ∗ bigSep Finset.univ fun c : Dev nD => slotsAt c) := by
    unfold G
    rw [bigSep_sep', bigSep_sep', bigSep_sep', bigSep_sep' _ (fun c => iprop(mine c true ∗ mine c false))]
  iintro ⟨HX, HS⟩
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (toks_mine (F := F)) $$ Htok
  ihave HS := hs $$ HS
  iapply (Entails.of_eq hG.symm)
  isplitl [Hst]; · iexact Hst
  isplitl [Hat]; · iexact Hat
  isplitl [Hr]; · iexact Hr
  isplitl [Htok] <;> iassumption

/-- What the sums over all devices are after the invariants are made. -/
def mid (K : Dev nD × CK → ℕ) (KS : Key → ℕ) : sProp (MM F) :=
  iprop((bigSep Finset.univ fun c : Dev nD => bigSep Finset.univ fun k : CK => reached ER (cell c k) 0) ∗ known m K KS)
instance mid_persistent (K : Dev nD × CK → ℕ) (KS : Key → ℕ) : BI.Persistent (mid m K KS) := by unfold mid; infer_instance

theorem mid_reached (K : Dev nD × CK → ℕ) (KS : Key → ℕ) (c : Dev nD) (k : CK) : mid m K KS ⊢ reached ER (cell c k) 0 := by
  unfold mid
  have h1 : (bigSep Finset.univ fun c : Dev nD => bigSep Finset.univ fun k : CK => (reached ER (cell c k) 0 : sProp (MM F)))
      ⊢ bigSep Finset.univ fun k : CK => reached ER (cell c k) 0 := bigSep_elim (Finset.mem_univ c)
  have h2 : (bigSep Finset.univ fun k : CK => (reached ER (cell c k) 0 : sProp (MM F))) ⊢ reached ER (cell c k) 0 := bigSep_elim (Finset.mem_univ k)
  iintro ⟨H, -⟩
  iapply h2
  iapply h1
  iexact H

def lin (c : Dev nD) : sProp (MM F) :=
  iprop((bigSep Finset.univ fun k : CK => atPos ER (cell c k) 0 ∅ 0)
    ∗ (bigSep Finset.univ fun q : Bool × Bool => Release.readerAt EK (c, q) 0) ∗ dealt c true ∗ dealt c false)

theorem ghost_intro (K : Dev nD × CK → ℕ) (KS : Key → ℕ) (c : Dev nD) : iprop(mid m K KS ∗ lin c) ⊢ G' m c := by
  unfold lin G' pre
  rw [sep_ck, bigSep_univ_prod, sep_bool, sep_bool, sep_bool]
  iintro ⟨#HM, ⟨HB, ⟨A0, A1, A2, A3, A4⟩, B0, B1, B2, B3, B4⟩, ⟨⟨R0, R1⟩, R2, R3⟩, D0, D1⟩
  have hr (c : Dev nD) (k : CK) := mid_reached m K KS c k
  isplitr
  · iexists K; iexists KS
    unfold mid
    icases HM with ⟨-, HM⟩
    iexact HM
  isplitl [HB]; · iexact HB
  isplitl [R0 R1 A0 A1 A2 A3 A4 D0]
  · isplitl [R0 R1]
    · isplitl [R0] <;> iassumption
    isplitr
    · isplitr; · iapply (mid_reached m K KS (bwd true c) kBar); iexact HM
      iapply (mid_reached m K KS (bwd true c) (kRdy true)); iexact HM
    isplitr
    · isplitr; · iapply (mid_reached m K KS c (some (true, some (true, true)))); iexact HM
      isplitr; · iapply (mid_reached m K KS c (some (true, some (true, false)))); iexact HM
      isplitr; · iapply (mid_reached m K KS c (some (true, some (false, false)))); iexact HM
      iapply (mid_reached m K KS c (some (true, some (false, true)))); iexact HM
    isplitl [A0 A1 A2 A3 A4]
    · isplitl [A0]; · iexact A0
      isplitl [A1]; · iexact A1
      isplitl [A2]; · iexact A2
      isplitl [A3] <;> iassumption
    iexact D0
  · isplitl [R2 R3]
    · isplitl [R2] <;> iassumption
    isplitr
    · isplitr; · iapply (mid_reached m K KS (bwd false c) kBar); iexact HM
      iapply (mid_reached m K KS (bwd false c) (kRdy false)); iexact HM
    isplitr
    · isplitr; · iapply (mid_reached m K KS c (some (false, some (true, true)))); iexact HM
      isplitr; · iapply (mid_reached m K KS c (some (false, some (true, false)))); iexact HM
      isplitr; · iapply (mid_reached m K KS c (some (false, some (false, false)))); iexact HM
      iapply (mid_reached m K KS c (some (false, some (false, true)))); iexact HM
    isplitl [B0 B1 B2 B3 B4]
    · isplitl [B0]; · iexact B0
      isplitl [B1]; · iexact B1
      isplitl [B2]; · iexact B2
      isplitl [B3] <;> iassumption
    iexact D1

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : CK => atPos ER (cell c k) 0 ∅ 0)
          ∗ (bigSep Finset.univ fun k : CK => reached ER (cell c k) 0) ∗ (mine c true ∗ mine c false) ∗ slotsAt c) := by
  unfold G
  iintro ⟨Hos, Hus, Hst, Hrest⟩
  ihave Hv := (sems_in (F := F) c) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp (MM F)) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  iexact Hrest

theorem regroup :
    (bigSep Finset.univ fun c : Dev nD => iprop((bigSep Finset.univ fun k => iprop(∃ κ : ℕ, cellInv ER (Rd m) κ (cell c k)))
          ∗ (bigSep Finset.univ fun k : CK => atPos ER (cell c k) 0 ∅ 0)
          ∗ (bigSep Finset.univ fun k : CK => reached ER (cell c k) 0) ∗ (mine c true ∗ mine c false) ∗ slotsAt c) : sProp (MM F))
      ⊢ |={Set.univ}=> bigSep Finset.univ (G' m) := by
  have hs : (bigSep Finset.univ fun c : Dev nD => (slotsAt c : sProp (MM F))) ⊢ BI.own (EK (Release.initSlots Finset.univ 4)) := by
    have h : (bigSep Finset.univ fun c : Dev nD => (slotsAt c : sProp (MM F))) ⊢ slotsAt 0 := bigSep_elim (Finset.mem_univ (0 : Dev nD))
    have e : (slotsAt 0 : sProp (MM F)) = BI.own (EK slots₀) := by unfold slotsAt; rw [if_pos rfl]
    rw [e] at h; exact h
  rw [bigSep_sep', bigSep_sep', bigSep_sep', bigSep_sep', ← bigSep_univ_prod (fun ck : Dev nD × CK => iprop(∃ κ : ℕ, cellInv ER (Rd m) κ (cell ck.1 ck.2)))]
  iintro ⟨HI, Hat, #HR, Htok, HS⟩
  ihave HK := (BI.bigSep_exists_pi Finset.univ (fun (ck : Dev nD × CK) (κ : ℕ) => (cellInv ER (Rd m) κ (cell ck.1 ck.2) : sProp (MM F)))) $$ HI
  icases HK with ⟨%K, #HI⟩
  ihave HS := hs $$ HS
  imod (Release.slots_init EK Finset.univ 4 (fun k : Key => free (F := F) k.1 k.2.1 (ofPar k.2.2))) $$ HS with ⟨%KS, -, #HSI, Hrd, Hwr⟩
  imodintro
  ihave Hwr := (toks_wr (F := F)) $$ Hwr
  ihave Hrd := (Entails.of_eq (bigSep_univ_prod (fun k : Dev nD × Bool × Bool => (Release.readerAt EK k 0 : sProp (MM F))))) $$ Hrd
  ihave Htok := (Entails.of_eq (bigSep_sep' Finset.univ (fun c : Dev nD => (mine c true : sProp (MM F))) (fun c => mine c false))) $$ Htok
  ihave Hwr := (Entails.of_eq (bigSep_sep' Finset.univ (fun c : Dev nD => (wrT c true : sProp (MM F))) (fun c => wrT c false))) $$ Hwr
  icases Htok with ⟨Ht, Hf⟩
  icases Hwr with ⟨Hwt, Hwf⟩
  ihave Ht := (deal (F := F) true) $$ [Ht Hwt]
  · isplitl [Ht] <;> iassumption
  ihave Hf := (deal (F := F) false) $$ [Hf Hwf]
  · isplitl [Hf] <;> iassumption
  iapply (bigSep_with_persistent (R := mid m K KS) fun c _ => ghost_intro m K KS c)
  isplitr
  · unfold mid known
    isplitr; · iexact HR
    isplitr; · iexact HI
    iexact HSI
  · unfold lin
    rw [bigSep_sep', bigSep_sep', bigSep_sep']
    isplitl [Hat]; · iexact Hat
    isplitl [Hrd]; · iexact Hrd
    isplitl [Ht] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp (MM F))
    ⊢ |={Set.univ}=> bigSep Finset.univ (G' m) :=
  ((bigSep_mono fun c _ => core_alloc m c).trans (bigSep_fupd _ _)).trans ((BI.fupd_mono (regroup m)).trans fupd_trans)

/-! ## The launch's conditions -/

theorem rest_intro (c : Dev nD) (X : Bool) :
    iprop(pre c X ∗ bigSep (Finset.Ico 0 (len X)) (rcred c X) ∗ bigSep (Finset.Ico 0 (len X - 1)) (wcred c X)) ⊢ (rest c X : sProp (MM F)) := by
  have hst : (bigSep (Finset.Ico 0 (len X)) (stock c X) : sProp (MM F)) = iprop(sndT c X ∗ rcvT (fwd X c) X ∗ wrT (fwd X c) X) := by
    unfold stock sndT rcvT wrT
    rw [bigSep_sep', bigSep_sep']
  have hrp : (atPos ER (cell c (some (X, none))) 0 ∅ 0 : sProp (MM F)) ⊢ rp c X 0 := by
    unfold rp brought
    rw [if_pos (by cases X <;> decide)]
    iintro H
    iexists ∅
    isplitl [H]; · iexact H
    rw [bigSep_empty]
    iempintro
  unfold pre dealt rest stocks
  rw [hst, show (ra c X 0 : sProp (MM F)) = Release.readerAt EK (c, X, false) 0 from rfl,
    show (av c X 0 : sProp (MM F)) = atPos ER (cell c (some (X, some (true, true)))) 0 ∅ 0 from rfl,
    show (av c X 1 : sProp (MM F)) = atPos ER (cell c (some (X, some (true, false)))) 0 ∅ 0 from rfl,
    show (rv c X 0 : sProp (MM F)) = reached ER (cell c (some (X, some (true, false)))) 0 from rfl,
    show (aS c X 0 : sProp (MM F)) = atPos ER (cell c (some (X, some (false, false)))) 0 ∅ 0 from rfl,
    show (aS c X 1 : sProp (MM F)) = atPos ER (cell c (some (X, some (false, true)))) 0 ∅ 0 from rfl,
    show (rs c X 0 : sProp (MM F)) = reached ER (cell c (some (X, some (false, false)))) 0 from rfl,
    show (rs c X 1 : sProp (MM F)) = reached ER (cell c (some (X, some (false, true)))) 0 from rfl,
    show (bigSep (Finset.Ico 0 (len X - 1)) (gtok c X) : sProp (MM F)) = rdyT (bwd X c) X from rfl,
    show (dutyTok ER (cell (bwd X c) kBar) 0 (barDuty X) : sProp (MM F)) = barT (bwd X c) X from rfl,
    show (reached ER (cell c (kRcv X 1)) 0 : sProp (MM F)) = reached ER (cell c (some (X, some (true, true)))) 0 from rfl]
  iintro ⟨⟨⟨R1, R0⟩, ⟨#E0, #E1⟩, ⟨#E2, #E3, #E4, #E5⟩, ⟨A0, A1, A2, A3, A4⟩, T0, T1, T2, T3, T4⟩, HC, HW⟩
  ihave A0 := hrp $$ A0
  isplitl [R1 R0 T0]
  · isplitl [R1]; · iexact R1
    isplitl [R0]; · iexact R0
    iexact T0
  isplitr
  · isplitr; · iexact E0
    isplitr; · iexact E1
    iexact E2
  isplitl [HC HW T1 T2 T3 T4 A0]
  · isplitl [T2 T3 T4]
    · isplitl [T2]; · iexact T2
      isplitl [T3] <;> iassumption
    isplitl [HC]; · iexact HC
    isplitl [T1]; · iexact T1
    isplitl [HW] <;> iassumption
  isplitl [A1 A2]
  · isplitl [A1]; · iexact A1
    isplitl [A2]; · iexact A2
    iexact E3
  isplitl [A3]; · iexact A3
  isplitl [A4]; · iexact A4
  isplitr; · iexact E4
  iexact E5

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  ihave Hlev := (Entails.of_eq (levs_eq (F := F)).symm) $$ Hlev
  unfold G'
  icases Hc with ⟨HB, ⟨C1, W1⟩, C2, W2⟩
  icases HG with ⟨⟨%K, %KS, HI⟩, HA, H1, H2⟩
  imodintro
  isplitl
  · unfold start
    isplitl [Hlev HI]
    · iexists K; iexists KS
      unfold recs known
      icases HI with ⟨HI, HJ⟩
      isplitl [HI]; · iexact HI
      isplitl [HJ] <;> iassumption
    isplitl [H1 C1 W1]
    · iapply (rest_intro c true)
      isplitl [H1]; · iexact H1
      isplitl [C1] <;> iassumption
    isplitl [H2 C2 W2]
    · iapply (rest_intro c false)
      isplitl [H2]; · iexact H2
      isplitl [C2] <;> iassumption
    isplitl [HA] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ ringBuf xcP xcIs
  iintro ⟨Hs, -, Ha, Hb, Hc⟩
  isplitl [Hs]; · iexact Hs
  isplitl [Ha]; · iexact Ha
  isplitl [Hb]; · iexact Hb
  iexact Hc

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ ringBuf xcP xcIs
  iintro ⟨⟨Ha, Hb, Hc⟩, H1, H2, HB⟩
  isplitl [HB]; · iexact HB
  isplitl [H1 H2]
  · iapply (zeros_out c)
    isplitl [H1] <;> iassumption
  isplitl [Ha]; · iexact Ha
  isplitl [Hb]; · iexact Hb
  iexact Hc

theorem waits (c : Dev nD) : (levAts L lv : sProp (MM F)) ⊢ Pipeline.cellsWaits cfgs (dats m) 0 0 c :=
  Pipeline.cellsWaits_intro cfgs (dats m) 0 0 c fun w s t =>
    (Entails.of_eq (levs_eq (F := F)).symm).trans (mayWait_stage c _ (by fin_cases w <;> fin_cases s <;> decide) _ (by
      rcases t with ⟨_ | _, ht⟩
      · exact Or.inl rfl
      · exact Or.inr rfl))

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 32000 in
/-- From any memory with zero counters, every weakly fair run of the kernel on the mesh ends, with each device's windows at
    the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_0 (c : Dev nD) : finalA m c (0 : Fin 6) = m ((c : Thread nD τ).loc main_arg0) := (dats m 0 c).arrAt_in (0 : Fin 6) rfl _
theorem finalA_1 (c : Dev nD) : finalA m c (1 : Fin 6) = m ((c : Thread nD τ).loc main_arg1) := (dats m 0 c).arrAt_in (1 : Fin 6) rfl _
theorem finalA_2 (c : Dev nD) : finalA m c (2 : Fin 6) = m ((c : Thread nD τ).loc main_arg2) := (dats m 0 c).arrAt_in (2 : Fin 6) rfl _
theorem finalA_3 (c : Dev nD) : finalA m c (3 : Fin 6) = m ((c : Thread nD τ).loc main_arg3) := (dats m 0 c).arrAt_in (3 : Fin 6) rfl _
theorem finalA_4 (c : Dev nD) : finalA m c (4 : Fin 6) = m ((c : Thread nD τ).loc main_arg4) := (dats m 0 c).arrAt_in (4 : Fin 6) rfl _

end Cert.KernelIdeal.Moe
-- ==== Proof.Value.Arrays.lean ====
/-
  The kernel's windows are whole arrays: what each device reads is its argument, and what the run leaves in the result is
  what the kernel computed.
-/
module

public import proofs.«01_k».proof.Proof.KernelIdeal.Run

@[expose] public section

noncomputable section

namespace Cert.KernelIdeal.Moe

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (c : Dev nD)

/-- At the one point of the grid a window's block begins at the array's first entry. -/
theorem whole0 (i : S1024x512.Idx) : (win0_0.blk (0 : Fin 1)).view.emb i = i := by
  funext a; apply Fin.ext; fin_cases a <;> exact (Nat.zero_add _).trans (Nat.one_mul _)
theorem whole1 (i : S512x64.Idx) : (win0_1.blk (0 : Fin 1)).view.emb i = i := by
  funext a; apply Fin.ext; fin_cases a <;> exact (Nat.zero_add _).trans (Nat.one_mul _)
theorem whole2 (i : S1024x1.Idx) : (win0_2.blk (0 : Fin 1)).view.emb i = i := by
  funext a; apply Fin.ext; fin_cases a <;> exact (Nat.zero_add _).trans (Nat.one_mul _)
theorem whole3 (i : S4x512x1024.Idx) : (win0_3.blk (0 : Fin 1)).view.emb i = i := by
  funext a; apply Fin.ext; fin_cases a <;> exact (Nat.zero_add _).trans (Nat.one_mul _)
theorem whole4 (i : S512x1024.Idx) : (win0_4.blk (0 : Fin 1)).view.emb i = i := by
  funext a; apply Fin.ext; fin_cases a <;> exact (Nat.zero_add _).trans (Nat.one_mul _)
theorem whole5 (i : S1024x1024.Idx) : (win0_5.blk (0 : Fin 1)).view.emb i = i := by
  funext a; apply Fin.ext; fin_cases a <;> exact (Nat.zero_add _).trans (Nat.one_mul _)

/-- So what a device stages is its argument. -/
theorem stg0_eq : stg0 m c = m ((c : Thread nD τ).loc main_arg0) := funext fun i => congrArg (m ((c : Thread nD τ).loc main_arg0)) (whole0 i)
theorem stg1_eq : stg1 m c = m ((c : Thread nD τ).loc main_arg1) := funext fun i => congrArg (m ((c : Thread nD τ).loc main_arg1)) (whole1 i)
theorem stg2_eq : stg2 m c = m ((c : Thread nD τ).loc main_arg2) := funext fun i => congrArg (m ((c : Thread nD τ).loc main_arg2)) (whole2 i)
theorem stg3_eq : stg3 m c = m ((c : Thread nD τ).loc main_arg3) := funext fun i => congrArg (m ((c : Thread nD τ).loc main_arg3)) (whole3 i)
theorem stg4_eq : stg4 m c = m ((c : Thread nD τ).loc main_arg4) := funext fun i => congrArg (m ((c : Thread nD τ).loc main_arg4)) (whole4 i)

/-- The result array's one block, read back after the run, is what the body left in the staging buffer. -/
theorem finalA_read : (win0_5.blk (0 : Fin 1)).view.read (Elt F) (finalA m c (5 : Fin 6)) = outEnd m c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from flush0_5 _, if_pos rfl]
  exact View.read_write_univ _ _

/-- So the result array holds what the kernel computed. -/
theorem finalA_5 : finalA m c (5 : Fin 6) = outEnd m c :=
  (funext fun i => (congrArg (finalA m c (5 : Fin 6)) (whole5 i)).symm).trans (finalA_read m c)

end Cert.KernelIdeal.Moe
end
-- ==== Proof.Value.Condition.lean ====
/-
  What the precondition says of one device: its tokens and the router are real numbers, and each token's expert is one of
  the 64.
-/
module

public import proofs.«01_k».proof.Defs
public import Idealize.ShloMosaic.Lib.Pointwise
public import Idealize.ShloMosaic.Lib.Tactic.WordOmega

@[expose] public section

noncomputable section

namespace Cert.Moe

open Idealize.ShloMosaic Idealize.ShloMosaic.TcCoe Idealize.SL.Sem

/-- The precondition's side conditions. -/
instance pre_kernel_facts : Cert.Pre_finite_and_routed_KernelIdeal.Facts := ⟨by decide, by decide, by decide⟩
instance pre_reference_facts : Cert.Pre_finite_and_routed_ReferenceIdeal.Facts := ⟨by decide, by decide, by decide⟩

/-- A number strictly between the two infinities is real. -/
theorem real_of_test (a : EReal) (h : IntOp.andi (BitVec.ofBool (decide (Ideal.ofBits FTy.bf16 65408#16 < a)))
    (BitVec.ofBool (decide (a < Ideal.ofBits FTy.bf16 32640#16))) = 1#1) : ∃ r : ℝ, a = (r : EReal) := by
  have lo : Ideal.ofBits FTy.bf16 65408#16 = ⊥ := by simp [Ideal.ofBits, Ideal.ieee]
  have hi : Ideal.ofBits FTy.bf16 32640#16 = ⊤ := by simp [Ideal.ofBits, Ideal.ieee]
  rw [lo, hi] at h
  have both : ∀ p q : Bool, IntOp.andi (BitVec.ofBool p) (BitVec.ofBool q) = 1#1 → p = true ∧ q = true := by decide
  obtain ⟨h₁, h₂⟩ := both _ _ h
  induction a with
  | bot => exact absurd (of_decide_eq_true h₁) (lt_irrefl _)
  | top => exact absurd (of_decide_eq_true h₂) (lt_irrefl _)
  | coe r => exact ⟨r, rfl⟩

/-- A word from 0 to 63 is an expert's number. -/
theorem expert_of_test (w : BitVec 32) (h : IntOp.andi (IntOp.cmpi .sge w 0#32) (IntOp.cmpi .slt w 64#32) = 1#1) :
    ∃ e : Fin 64, w = BitVec.ofNat 32 e.val := by
  have hw : w.toNat < 64 := by word_omega
  exact ⟨⟨w.toNat, hw⟩, by simp⟩

section
open Cert.Pre_finite_and_routed_KernelIdeal

variable (x : FVec Ideal S1024x512 .bf16) (R : FVec Ideal S512x64 .bf16) (i : IVec S1024x1 32) (W : FVec Ideal S4x512x1024 .bf16)
  (S : FVec Ideal S512x1024 .bf16)

theorem tokens_real (h : (fn (F := Ideal) x R i W S).1 = fun _ => 1#1) (t : Fin 1024) (k : Fin 512) : ∃ a : ℝ, x (ix2 t k) = (a : EReal) := by
  have h := congrFun h (ix2 t k)
  revert h
  unfold fn
  pointwise
  exact real_of_test _

theorem router_real (h : (fn (F := Ideal) x R i W S).2.1 = fun _ => 1#1) (k : Fin 512) (e : Fin 64) : ∃ a : ℝ, R (ix2 k e) = (a : EReal) := by
  have h := congrFun h (ix2 k e)
  revert h
  unfold fn
  pointwise
  exact real_of_test _

theorem routed (h : (fn (F := Ideal) x R i W S).2.2 = fun _ => 1#1) (t : Fin 1024) : ∃ e : Fin 64, i (ix2 t 0) = BitVec.ofNat 32 e.val := by
  have h := congrFun h (ix2 t 0)
  revert h
  unfold fn
  pointwise
  exact expert_of_test _

end

end Cert.Moe
end
-- ==== Proof.Value.Spec.lean ====
/-
  The value of one entry of the result, as a function of one token's row, of the expert the token is routed to, and of the
  weights. Nothing here names a program: the modules on the kernel and on the reference both arrive at `entry`.
-/
module

public import Idealize.ShloMosaic.Lib.Pointwise

@[expose] public section

noncomputable section

namespace Cert.Moe

open Idealize.ShloMosaic

/-- The router's score of expert `e` for the token with row `x`. -/
def score (x : Fin 512 → EReal) (R : Fin 512 → Fin 64 → EReal) (e : Fin 64) : EReal := ∑ k, x k * R k e

/-- The greatest score, which the softmax subtracts. -/
def best (x : Fin 512 → EReal) (R : Fin 512 → Fin 64 → EReal) : EReal := Finset.fold max (Ideal.ofBits .f32 4286578688#32) (score x R) Finset.univ

/-- The softmax of the scores at expert `e`. -/
def prob (x : Fin 512 → EReal) (R : Fin 512 → Fin 64 → EReal) (e : Fin 64) : EReal :=
  Ideal.div (Ideal.exp (score x R e - best x R)) (∑ e', Ideal.exp (score x R e' - best x R))

/-- One entry of the result: the shared expert's product, and the routed expert's scaled by the token's gate. -/
def entry (x : Fin 512 → EReal) (R : Fin 512 → Fin 64 → EReal) (S W : Fin 512 → EReal) (e : Fin 64) : EReal :=
  ∑ k, x k * S k + prob x R e * ∑ k, x k * W k

/-! ## The gate is a nonnegative real number when the row and the router are finite -/

/-- The pattern of minus infinity is the least extended real. -/
theorem ofBits_least : Ideal.ofBits .f32 4286578688#32 = ⊥ := by
  simp [Ideal.ofBits, Ideal.ieee]

/-- A finite sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The scores of a finite row against a finite router are real. -/
theorem score_real {x : Fin 512 → EReal} {R : Fin 512 → Fin 64 → EReal} (hx : ∀ k, ∃ a : ℝ, x k = a)
    (hR : ∀ k e, ∃ a : ℝ, R k e = a) (e : Fin 64) : ∃ a : ℝ, score x R e = a := by
  choose a ha using hx
  choose b hb using hR
  refine ⟨∑ k, a k * b k e, ?_⟩
  unfold score
  rw [← coe_sum]
  exact Finset.sum_congr rfl fun k _ => by rw [ha, hb, EReal.coe_mul]

/-- The greatest of a nonempty family of reals, from minus infinity up, is real. -/
theorem fold_max_real {ι : Type} (s : Finset ι) (hs : s.Nonempty) (f : ι → ℝ) :
    ∃ a : ℝ, Finset.fold max (⊥ : EReal) (fun i => (f i : EReal)) s = a := by
  classical
  induction hs using Finset.Nonempty.cons_induction with
  | singleton i => exact ⟨f i, by simp⟩
  | cons i s hi hs ih =>
    obtain ⟨a, ha⟩ := ih
    exact ⟨max (f i) a, by rw [Finset.fold_cons, ha]; exact (EReal.coe_strictMono.monotone.map_max).symm⟩

/-- The gate of a finite row is a nonnegative real. -/
theorem prob_real {x : Fin 512 → EReal} {R : Fin 512 → Fin 64 → EReal} (hx : ∀ k, ∃ a : ℝ, x k = a)
    (hR : ∀ k e, ∃ a : ℝ, R k e = a) (e : Fin 64) : ∃ a : ℝ, 0 ≤ a ∧ prob x R e = a := by
  choose s hs using score_real hx hR
  have hb : ∃ b : ℝ, best x R = b := by
    unfold best
    rw [ofBits_least, show score x R = fun e => ((s e : ℝ) : EReal) from funext hs]
    exact fold_max_real _ Finset.univ_nonempty s
  obtain ⟨b, hb⟩ := hb
  have hexp : ∀ e, Ideal.exp (score x R e - best x R) = (Real.exp (s e - b) : ℝ) := fun e => by
    rw [hs, hb, ← EReal.coe_sub, Ideal.exp_coe]
  have hpos : 0 < ∑ e', Real.exp (s e' - b) := Finset.sum_pos (fun _ _ => Real.exp_pos _) Finset.univ_nonempty
  refine ⟨Real.exp (s e - b) / ∑ e', Real.exp (s e' - b), div_nonneg (Real.exp_pos _).le hpos.le, ?_⟩
  unfold prob
  simp only [hexp]
  rw [coe_sum, Ideal.div_coe hpos.ne', ← EReal.coe_mul, mul_one_div]

/-! ## A gate goes in and out of a product -/

/-- A nonnegative real factor distributes over a finite sum of extended reals. -/
theorem mul_sum_real {ι : Type} (p : ℝ) (hp : 0 ≤ p) (s : Finset ι) (f : ι → EReal) : (p : EReal) * ∑ i ∈ s, f i = ∑ i ∈ s, (p : EReal) * f i := by
  classical
  induction s using Finset.induction_on with
  | empty => simp
  | insert a s ha ih =>
    rw [Finset.sum_insert ha, Finset.sum_insert ha, EReal.left_distrib_of_nonneg_of_ne_top (by exact_mod_cast hp) (EReal.coe_ne_top p), ih]

/-- Scaling every entry of the token's row scales its product with an expert's column. -/
theorem gate_out (p : ℝ) (hp : 0 ≤ p) (x W : Fin 512 → EReal) : ∑ k, x k * (p : EReal) * W k = (p : EReal) * ∑ k, x k * W k := by
  rw [mul_sum_real p hp]
  exact Finset.sum_congr rfl fun k _ => by rw [mul_comm (x k), mul_assoc]

/-! ## The experts, four to an owner -/

/-- A sum over the rows of four stacked experts is a sum over the experts and their rows. -/
theorem sum_stacked (g : Fin 4 → Fin 512 → EReal) :
    ∑ q : Fin 2048, g ⟨q.val / 512, by omega⟩ ⟨q.val % 512, by omega⟩ = ∑ j, ∑ k, g j k := by
  rw [← Fintype.sum_prod_type' g]
  exact Fintype.sum_equiv (finProdFinEquiv (m := 4) (n := 512)).symm _ _ fun q => rfl

/-- Of all owners' experts only the one the token is routed to sees the token's row. -/
theorem sum_owners (e : Fin 64) (a : Fin 512 → EReal) (W : Fin 16 → Fin 4 → Fin 512 → EReal) :
    ∑ d : Fin 16, ∑ j : Fin 4, ∑ k, (if e.val = 4 * d.val + j.val then a k * W d j k else 0)
      = ∑ k, a k * W ⟨e.val / 4, by omega⟩ ⟨e.val % 4, by omega⟩ k := by
  have off : ∀ (d : Fin 16) (j : Fin 4), e.val ≠ 4 * d.val + j.val →
      ∑ k, (if e.val = 4 * d.val + j.val then a k * W d j k else 0) = 0 := fun d j h =>
    Finset.sum_eq_zero fun k _ => by rw [if_neg h]
  rw [Finset.sum_eq_single (⟨e.val / 4, by omega⟩ : Fin 16), Finset.sum_eq_single (⟨e.val % 4, by omega⟩ : Fin 4)]
  · exact Finset.sum_congr rfl fun k _ => by rw [if_pos (show e.val = 4 * (e.val / 4) + e.val % 4 by omega)]
  · intro j _ hj
    exact off _ j fun h => hj (Fin.ext (by simp only at h ⊢; omega))
  · exact fun h => absurd (Finset.mem_univ _) h
  · intro d _ hd
    exact Finset.sum_eq_zero fun j _ => off d j fun h => hd (Fin.ext (by simp only at h ⊢; omega))
  · exact fun h => absurd (Finset.mem_univ _) h

/-- A sum taken in any order in which each owner comes once is the sum over the owners. -/
theorem sum_met (g : Fin 16 → EReal) (l : List (Fin 16)) (h : l.Perm (List.finRange 16)) : (l.map g).sum = ∑ d, g d := by
  rw [(h.map g).sum_eq, Fin.sum_univ_def]

end Cert.Moe
end
-- ==== Proof.Value.Kernel.lean ====
/-
  The kernel's result at one entry: the sum of the shared product and of sixteen owners' shares is `Cert.Moe.entry` of the
  token's row, whichever way the blocks came round the rings.
-/
module

public import proofs.«01_k».proof.Proof.KernelIdeal.Run
public import proofs.«01_k».proof.Proof.Value.Spec
public import Idealize.ShloMosaic.Lib.Pointwise
public import Idealize.ShloMosaic.Lib.Tactic.WordOmega

@[expose] public section

noncomputable section

namespace Cert.KernelIdeal.Moe

open Cert.KernelIdeal Cert.KernelIdeal.Gen Idealize.ShloMosaic Idealize.ShloMosaic.TcCoe Idealize.SL.Sem

variable (m : (ℓ : Loc nD τ sig) → Buf (Elt Ideal) ℓ)

/-- The words by which the kernel names the owner of the block it holds are that owner's number. -/
theorem own_words : ∀ (c : Dev nD) (r : Fin 9), ownR c r = BitVec.ofNat 32 (own true c r).val ∧ ownL c r = BitVec.ofNat 32 (own false c r).val := by
  decide

/-- In the first round the block is the device's own. -/
theorem my_word : ∀ (c : Dev nD), myWord c  = BitVec.ofNat 32 c.val := by
  decide

/-- The devices whose blocks device `c` meets, in the order in which it meets them. -/
def visited (c : Dev nD) : List (Dev nD) :=
  [c, own true c 1, own false c 1, own true c 2, own false c 2, own true c 3, own false c 3, own true c 4, own false c 4,
    own true c 5, own false c 5, own true c 6, own false c 6, own true c 7, own false c 7, own true c 8]

/-- Every device is visited once. -/
theorem visited_all : ∀ c : Dev nD, (visited c).Perm (List.finRange 16) := by decide

/-- What the block of owner `d` adds to entry `(t, f)` of device `c`. -/
def share (v : Loaded Ideal) (W : FVec Ideal S4x512x1024 .bf16) (t : Fin 1024) (f : Fin 1024) (d : Dev nD) : EReal :=
  ∑ q : Fin 2048, Scalar.select (IntOp.cmpi .eq (v.idx (ix2 t 0)) (Scalar.addi (Scalar.muli (BitVec.ofNat 32 d.val) 4#32) (BitVec.ofNat 32 (q.val / 512))))
      (v.x (ix2 t ⟨q.val % 512, by omega⟩) * v.p (ix2 t 0) * W (ix3 ⟨q.val / 512, by omega⟩ ⟨q.val % 512, by omega⟩ f)) (0 : EReal)

/-- A column of four stacked pieces, within its piece. -/
theorem inPiece_pair (t : Fin 1024) (q : Fin 2048) : inPiece (ix2 t q) = ix2 t ⟨q.val % 512, by omega⟩ := by
  funext a; match a with | 0 => rfl | 1 => rfl

/-- One accumulation adds one owner's share. -/
theorem accum_entry (v : Loaded Ideal) (W : FVec Ideal S4x512x1024 .bf16) (o : FVec Ideal S1024x1024 .f32) (t : Fin 1024) (f : Fin 1024) (d : Dev nD) :
    (accum (k0_pay3 (F := Ideal) W) o (xcat v.x v.idx v.p (BitVec.ofNat 32 d.val)) : FVec Ideal S1024x1024 .f32) (ix2 t f) = o (ix2 t f) + share v W t f d := by
  unfold share
  pointwise [accum, k0_pay15, k0_pay3, k0_pay2, xcat, masked]
  simp only [inPiece_pair]
  rfl

/-- The test of a token's expert against expert `j` of owner `d`. -/
theorem owner_test : ∀ (d : Fin 16) (j : Fin 4) (e : Fin 64),
    (IntOp.cmpi .eq (BitVec.ofNat 32 e.val) (Scalar.addi (Scalar.muli (BitVec.ofNat 32 d.val) 4#32) (BitVec.ofNat 32 j.val)) = 1#1) ↔ e.val = 4 * d.val + j.val := by
  intro d j e
  unfold Scalar.addi Scalar.muli IntOp.muli
  word_omega

/-- All owners' shares together are the product of the token's scaled row with the expert it is routed to. -/
theorem sum_share (v : Loaded Ideal) (W : Dev nD → FVec Ideal S4x512x1024 .bf16) (t : Fin 1024) (f : Fin 1024) (e : Fin 64) (he : v.idx (ix2 t 0) = BitVec.ofNat 32 e.val) :
    ∑ d : Dev nD, share v (W d) t f d
      = ∑ k : Fin 512, v.x (ix2 t k) * v.p (ix2 t 0) * W ⟨e.val / 4, by show e.val / 4 < 16; omega⟩ (ix3 ⟨e.val % 4, by omega⟩ k f) := by
  rw [← Cert.Moe.sum_owners e (fun k => v.x (ix2 t k) * v.p (ix2 t 0)) (fun d j k => W d (ix3 j k f))]
  refine Finset.sum_congr rfl fun d _ => ?_
  rw [← Cert.Moe.sum_stacked]
  refine Finset.sum_congr rfl fun q _ => ?_
  rw [he]
  exact if_congr (owner_test d ⟨q.val / 512, by omega⟩ e) rfl rfl

variable (c : Dev nD) (t f : Fin 1024)

/-- A device's arguments as arrays. -/
abbrev X (c : Dev nD) : FVec Ideal S1024x512 .bf16 := stg0 m c
abbrev Rt (c : Dev nD) : FVec Ideal S512x64 .bf16 := stg1 m c
abbrev Ix (c : Dev nD) : IVec S1024x1 32 := stg2 m c
abbrev We (c : Dev nD) : FVec Ideal S4x512x1024 .bf16 := stg3 m c
abbrev Sh (c : Dev nD) : FVec Ideal S512x1024 .bf16 := stg4 m c

/-- The shared expert's product and the device's own experts. -/
theorem out0_entry : (out0 m c : FVec Ideal S1024x1024 .f32) (ix2 t f)
    = ∑ k, X m c (ix2 t k) * Sh m c (ix2 k f) + share (loaded m c) (We m c) t f c := by
  unfold out0
  rw [my_word]
  refine (accum_entry (loaded m c) (stg3 m c) _ t f c).trans ?_
  congr 1
  pointwise [k0_pay9, k0_pay5]

/-- What two owners' blocks add in one round. -/
theorem roundOut_entry (r : Fin 9) (o : FVec Ideal S1024x1024 .f32) : (roundOut m c (loaded m c) r o : FVec Ideal S1024x1024 .f32) (ix2 t f)
    = o (ix2 t f) + share (loaded m c) (We m (own true c r)) t f (own true c r) + share (loaded m c) (We m (own false c r)) t f (own false c r) := by
  unfold roundOut
  have h1 : ownR (loaded m c).d r = _ := (own_words c r).1
  have h2 : ownL (loaded m c).d r = _ := (own_words c r).2
  rw [h1, h2]
  refine (accum_entry (loaded m c) (stg3 m (own false c r)) _ t f _).trans ?_
  congr 1
  exact accum_entry (loaded m c) (stg3 m (own true c r)) _ t f _

/-- After the last round the device has added every owner's share. -/
theorem outEnd_entry : (outEnd m c : FVec Ideal S1024x1024 .f32) (ix2 t f)
    = ∑ k, X m c (ix2 t k) * Sh m c (ix2 k f) + ∑ d, share (loaded m c) (We m d) t f d := by
  unfold outEnd
  rw [show ownR c 8 = _ from (own_words c 8).1]
  refine (accum_entry (loaded m c) (stg3 m (own true c 8)) _ t f _).trans ?_
  rw [← Cert.Moe.sum_met (fun d => share (loaded m c) (We m d) t f d) (visited c) (visited_all c)]
  have e (n : Fin 8) : (outN m c (n.val + 1) : FVec Ideal S1024x1024 .f32) (ix2 t f) = _ := roundOut_entry m c t f n.succ (outN m c n)
  have e0 : (outN m c (0 : Fin 8).val : FVec Ideal S1024x1024 .f32) (ix2 t f) = _ := out0_entry m c t f
  erw [e 6, e 5, e 4, e 3, e 2, e 1, e 0, e0]
  simp only [visited, List.map_cons, List.map_nil, List.sum_cons, List.sum_nil, add_zero, add_assoc]
  rfl

/-- The probabilities the kernel keeps are the softmax of the scores. -/
theorem probs_entry (x : FVec Ideal S1024x512 .bf16) (w : FVec Ideal S512x64 .bf16) (t : Fin 1024) (e : Fin 64) :
    (k0_pay6 (F := Ideal) x w : FVec Ideal S1024x64 .f32) (ix2 t e) = Cert.Moe.prob (fun k => x (ix2 t k)) (fun k e => w (ix2 k e)) e := by
  pointwise [k0_pay6, k0_pay5]
  rfl

/-- The gate the kernel finds by comparing the token's expert with every expert. -/
theorem gate_entry (p : FVec Ideal S1024x64 .f32) (i : IVec S1024x1 32) (t : Fin 1024) (e : Fin 64) (he : i (ix2 t 0) = BitVec.ofNat 32 e.val) :
    (k0_pay8 (F := Ideal) p i : FVec Ideal S1024x1 .f32) (ix2 t 0) = p (ix2 t e) := by
  pointwise [k0_pay8]
  rw [he, Finset.sum_eq_single e]
  · exact if_pos ((by decide : ∀ e : Fin 64, IntOp.cmpi .eq (BitVec.ofNat 32 e.val) (BitVec.ofNat 32 e.val) = 1#1) e)
  · intro e' _ h
    refine if_neg fun h' => h (Fin.ext ?_)
    have := e'.isLt
    have := e.isLt
    word_omega
  · exact fun h => absurd (Finset.mem_univ _) h

/-- The device's tokens go into the products as they are. -/
theorem loaded_x (k : Fin 512) : (loaded m c).x (ix2 t k) = X m c (ix2 t k) := by
  show k0_pay5 (F := Ideal) (X m c) (ix2 t k) = _
  generalize X m c = x
  pointwise [k0_pay5]

/-- So do their experts. -/
theorem loaded_idx : (loaded m c).idx = Ix m c := by
  show k0_pay7 (F := Ideal) (Ix m c) = _
  generalize Ix m c = x
  funext j
  rw [eq_ix2 j]
  pointwise [k0_pay7]

/-- The gate the kernel finds by its comparison with every expert is the softmax at the token's expert. -/
theorem loaded_p (e : Fin 64) (he : Ix m c (ix2 t 0) = BitVec.ofNat 32 e.val) :
    (loaded m c).p (ix2 t 0) = Cert.Moe.prob (fun k => X m c (ix2 t k)) (fun k e => Rt m c (ix2 k e)) e := by
  rw [← probs_entry]
  refine gate_entry (k0_pay6 (F := Ideal) (X m c) (Rt m c)) (loaded m c).idx t e ?_
  rw [loaded_idx, he]

/-- THE KERNEL AT ONE ENTRY: for finite rows and a token routed to expert `e`. -/
theorem outEnd_value (e : Fin 64) (he : Ix m c (ix2 t 0) = BitVec.ofNat 32 e.val) (hx : ∀ k, ∃ a : ℝ, X m c (ix2 t k) = (a : EReal))
    (hR : ∀ k e, ∃ a : ℝ, Rt m c (ix2 k e) = (a : EReal)) :
    (outEnd m c : FVec Ideal S1024x1024 .f32) (ix2 t f)
      = Cert.Moe.entry (fun k => X m c (ix2 t k)) (fun k e => Rt m c (ix2 k e)) (fun k => Sh m c (ix2 k f))
          (fun k => We m ⟨e.val / 4, by show e.val / 4 < 16; omega⟩ (ix3 ⟨e.val % 4, by omega⟩ k f)) e := by
  obtain ⟨p, hp, hp'⟩ := Cert.Moe.prob_real hx hR e
  rw [outEnd_entry, sum_share (loaded m c) (We m) t f e ((congrFun (loaded_idx m c) _).trans he), loaded_p m c t e he]
  unfold Cert.Moe.entry
  rw [hp', ← Cert.Moe.gate_out p hp]
  simp only [loaded_x]

end Cert.KernelIdeal.Moe
end
-- ==== Proof.Value.Reference.lean ====
/-
  The reference's result at one entry: it is `Cert.Moe.entry` of the token's row when the token is routed to an expert.
-/
module

public import proofs.«01_k».proof.Proof.Gen.ReferenceIdeal.Run
public import proofs.«01_k».proof.Proof.Value.Spec
public import Idealize.ShloMosaic.Lib.Pointwise
public import Idealize.ShloMosaic.Lib.Tactic.CleanTypes
public import Idealize.ShloMosaic.Lib.Tactic.WordOmega

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

/-- Looking up whole experts: entry `(T, d, f)` is entry `(d, f)` of the expert the table of indices names at `T`. -/
theorem lookup_expert {α : Type} (x : S64x512x1024.Idx → α) (idx : IVec S16384x1 32) (T : Fin 16384) (d : Fin 512) (f : Fin 1024) :
    Host.gather gather_S64x512x1024_S16384x1_S16384x512x1024_12_0_n_n_0_1_15121024 x idx (ix3 T d f)
      = x (ix3 ⟨min (idx (ix2 T 0)).toInt.toNat 63, by omega⟩ d f) := by
  unfold Host.gather
  congr 1
  funext a
  apply Fin.ext
  have hs : gather_S64x512x1024_S16384x1_S16384x512x1024_12_0_n_n_0_1_15121024.siIdx (ix3 T d f) ⟨0, by decide⟩ = ix2 T 0 := by
    funext b; match b with | 0 => rfl | 1 => rfl
  match a with
  | 0 =>
    show min (idx (gather_S64x512x1024_S16384x1_S16384x512x1024_12_0_n_n_0_1_15121024.siIdx (ix3 T d f) ⟨0, by decide⟩)).toInt.toNat 63 + 0 + 0 = _
    rw [hs]; rfl
  | 1 => show 0 + 0 + d.val = d.val; omega
  | 2 => show 0 + 0 + f.val = f.val; omega

/-- Looking up one probability in each row. -/
theorem lookup_prob {α : Type} (x : S16384x64.Idx → α) (idx : IVec S16384x1x1 32) (T : Fin 16384) :
    Host.gather gather_S16384x64_S16384x1x1_S16384x1_n_1_0_0_1_2_11 x idx (ix2 T 0)
      = x (ix2 T ⟨min (idx (ix3 T 0 0)).toInt.toNat 63, by omega⟩) := by
  unfold Host.gather
  congr 1
  funext a
  apply Fin.ext
  have hs : gather_S16384x64_S16384x1x1_S16384x1_n_1_0_0_1_2_11.siIdx (ix2 T 0) ⟨0, by decide⟩ = ix3 T 0 0 := by
    funext b; match b with | 0 => rfl | 1 => rfl | 2 => rfl
  match a with
  | 0 => show 0 + T.val + 0 = T.val; omega
  | 1 =>
    show min (idx (gather_S16384x64_S16384x1x1_S16384x1_n_1_0_0_1_2_11.siIdx (ix2 T 0) ⟨0, by decide⟩)).toInt.toNat 63 + 0 + 0 = _
    rw [hs]; rfl

/-- The reference's arguments and result, as arrays of extended reals and words. -/
abbrev X (m : (ℓ : Loc nD τ sig) → Buf (Elt Ideal) ℓ) (c : Dev nD) : FVec Ideal S16384x512 .bf16 := m ((c : Thread nD τ).loc main_arg0)
abbrev Rt (m : (ℓ : Loc nD τ sig) → Buf (Elt Ideal) ℓ) (c : Dev nD) : FVec Ideal S512x64 .bf16 := m ((c : Thread nD τ).loc main_arg1)
abbrev Ix (m : (ℓ : Loc nD τ sig) → Buf (Elt Ideal) ℓ) (c : Dev nD) : IVec S16384x1 32 := m ((c : Thread nD τ).loc main_arg2)
abbrev We (m : (ℓ : Loc nD τ sig) → Buf (Elt Ideal) ℓ) (c : Dev nD) : FVec Ideal S64x512x1024 .bf16 := m ((c : Thread nD τ).loc main_arg3)
abbrev Sh (m : (ℓ : Loc nD τ sig) → Buf (Elt Ideal) ℓ) (c : Dev nD) : FVec Ideal S512x1024 .bf16 := m ((c : Thread nD τ).loc main_arg4)

/-- The index of an expert is not wrapped round. -/
theorem wrap_expert : ∀ e : Fin 64, Scalar.select (IntOp.cmpi .slt (BitVec.ofNat 32 e) 0#32) (IntOp.addi (BitVec.ofNat 32 e) 64#32) (BitVec.ofNat 32 e)
    = BitVec.ofNat 32 e := by decide

/-- It is in the range that the lookup accepts. -/
theorem accept_expert : ∀ e : Fin 64, IntOp.andi (IntOp.cmpi .sge (BitVec.ofNat 32 e) 0#32) (IntOp.cmpi .sle (BitVec.ofNat 32 e) 63#32) = 1#1 := by decide

/-- And the lookup does not clamp it. -/
theorem clamp_expert (e : Fin 64) (h : min (BitVec.ofNat 32 e).toInt.toNat 63 < 64) : (⟨min (BitVec.ofNat 32 e).toInt.toNat 63, h⟩ : Fin 64) = e :=
  Fin.ext ((by decide : ∀ e : Fin 64, min (BitVec.ofNat 32 e).toInt.toNat 63 = e.val) e)

/-- The reference at one entry, for a token routed to expert `e`. -/
theorem res_entry (m : (ℓ : Loc nD τ sig) → Buf (Elt Ideal) ℓ) (c : Dev nD) (T : Fin 16384) (f : Fin 1024) (e : Fin 64)
    (he : Ix m c (ix2 T 0) = BitVec.ofNat 32 e) :
    (res_main_v27 m c : FVec Ideal S16384x1024 .f32) (ix2 T f)
      = Cert.Moe.entry (fun k => X m c (ix2 T k)) (fun k e => Rt m c (ix2 k e)) (fun k => Sh m c (ix2 k f)) (fun k => We m c (ix3 e k f)) e := by
  unfold res_main_v27
  clean_types
  pointwise
  simp only [lookup_expert, lookup_prob]
  pointwise
  have he' : m (c.tc.loc main_arg2) (ix2 T 0) = BitVec.ofNat 32 e := he
  simp only [he', wrap_expert, accept_expert, clamp_expert]
  rfl

end Cert.ReferenceIdeal.Value
end
-- ==== Proof.Value.Equation.lean ====
/-
  Device `c`'s result is its block of the reference's: token `t` of device `c` is token `1024 c + t` of the whole, and
  expert `j` of owner `d` is expert `4 d + j`.
-/
module

public import proofs.«01_k».proof.Proof.Value.Arrays
public import proofs.«01_k».proof.Proof.Value.Condition
public import proofs.«01_k».proof.Proof.Value.Kernel
public import proofs.«01_k».proof.Proof.Value.Reference

@[expose] public section

noncomputable section

namespace Cert.Moe

open Idealize.ShloMosaic Idealize.ShloMosaic.TcCoe Idealize.SL.Sem

/-- A token of a device, among all tokens. -/
abbrev token (c : Fin 16) (t : Fin 1024) : Fin 16384 := ⟨c.val * 1024 + t.val, by omega⟩

/-- An entry of a block of rows, in the whole array. -/
theorem block_rows {α : Type} {n : ℕ} (h : Layout.Tiles ⟨2, ![1024, n]⟩ ⟨2, ![16384, n]⟩ 0 16) (v : (⟨2, ![16384, n]⟩ : Shape).Idx → α) (c : Fin 16)
    (t : Fin 1024) (l : Fin n) : Layout.block ⟨2, ![1024, n]⟩ ⟨2, ![16384, n]⟩ 0 16 c v h (ix2 t l) = v (ix2 (token c t) l) := by
  rw [Layout.block_apply]
  congr 1
  funext a
  match a with
  | 0 => rfl
  | 1 => rfl

/-- The expert a token is routed to, among its owner's four, is that expert of all 64. -/
theorem block_expert {α : Type} (h : Layout.Tiles ⟨3, ![4, 512, 1024]⟩ ⟨3, ![64, 512, 1024]⟩ 0 16) (v : (⟨3, ![64, 512, 1024]⟩ : Shape).Idx → α) (e : Fin 64)
    (k : Fin 512) (f : Fin 1024) :
    Layout.block ⟨3, ![4, 512, 1024]⟩ ⟨3, ![64, 512, 1024]⟩ 0 16 ⟨e.val / 4, by omega⟩ v h (ix3 ⟨e.val % 4, by omega⟩ k f) = v (ix3 e k f) := by
  rw [Layout.block_apply]
  congr 1
  funext a
  match a with
  | 0 => exact Fin.ext (show e.val / 4 * 4 + e.val % 4 = e.val by omega)
  | 1 => rfl
  | 2 => rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- THE EQUATION: a device's result is its block of the reference's result, when its arguments are its blocks. -/
theorem result_eq (hpre : Cert.Pre_KernelIdeal_finite_and_routed_KernelIdeal m)
    (h0 : ∀ c : Fin 16, Cert.KernelIdeal.Moe.X m c = Layout.block ⟨2, ![1024, 512]⟩ ⟨2, ![16384, 512]⟩ 0 16 c (Cert.ReferenceIdeal.Value.X m' 0))
    (h1 : ∀ c : Fin 16, Cert.KernelIdeal.Moe.Rt m c = Cert.ReferenceIdeal.Value.Rt m' 0)
    (h2 : ∀ c : Fin 16, Cert.KernelIdeal.Moe.Ix m c = Layout.block ⟨2, ![1024, 1]⟩ ⟨2, ![16384, 1]⟩ 0 16 c (Cert.ReferenceIdeal.Value.Ix m' 0))
    (h3 : ∀ c : Fin 16, Cert.KernelIdeal.Moe.We m c = Layout.block ⟨3, ![4, 512, 1024]⟩ ⟨3, ![64, 512, 1024]⟩ 0 16 c (Cert.ReferenceIdeal.Value.We m' 0))
    (h4 : ∀ c : Fin 16, Cert.KernelIdeal.Moe.Sh m c = Cert.ReferenceIdeal.Value.Sh m' 0) (c : Fin 16) :
    (Cert.KernelIdeal.Moe.outEnd m c : FVec Ideal ⟨2, ![1024, 1024]⟩ .f32)
      = Layout.block ⟨2, ![1024, 1024]⟩ ⟨2, ![16384, 1024]⟩ 0 16 c (Cert.ReferenceIdeal.Value.res_main_v27 m' 0 : FVec Ideal ⟨2, ![16384, 1024]⟩ .f32) := by
  suffices H : ∀ (t f : Fin 1024), (Cert.KernelIdeal.Moe.outEnd m c : FVec Ideal ⟨2, ![1024, 1024]⟩ .f32) (ix2 t f)
      = (Cert.ReferenceIdeal.Value.res_main_v27 m' 0 : FVec Ideal ⟨2, ![16384, 1024]⟩ .f32) (ix2 (token c t) f) by
    funext j
    rw [eq_ix2 j]
    exact (H _ _).trans (block_rows _ _ c _ _).symm
  intro t f
  have hp := hpre c
  have hx := tokens_real _ _ _ _ _ hp.1 t
  have hR := router_real _ _ _ _ _ hp.2.1
  obtain ⟨e, he⟩ := routed _ _ _ _ _ hp.2.2 t
  rw [← Cert.KernelIdeal.Moe.stg0_eq m c] at hx
  rw [← Cert.KernelIdeal.Moe.stg1_eq m c] at hR
  rw [← Cert.KernelIdeal.Moe.stg2_eq m c] at he
  refine (Cert.KernelIdeal.Moe.outEnd_value m c t f e he hx hR).trans ?_
  have he' : Cert.ReferenceIdeal.Value.Ix m' 0 (ix2 (token c t) 0) = BitVec.ofNat 32 e.val :=
    (block_rows (by decide) (Cert.ReferenceIdeal.Value.Ix m' 0) c t 0).symm.trans ((congrFun (h2 c) (ix2 t 0)).symm.trans he)
  refine Eq.trans ?_ (Cert.ReferenceIdeal.Value.res_entry m' 0 (token c t) f e he').symm
  rw [h1, h4, h0, h3]
  simp only [block_rows]
  congr 1
  funext k
  exact block_expert _ _ e k f

end Cert.Moe
end
-- ==== Proof.lean ====
/- The proof of the certificate: the kernel's frames from its run, the reference's from its own, and the equality of their
   results from the two runs and the equation of the values. -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Value.Equation
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs, changes no argument and leaves every counter at zero. -/
theorem frame_kernel : Cert.quiescent_Kernel := fun m ρ _ =>
  (θ_run Cert.Kernel.defs _ _).mono
    (fun _ h => ⟨fun c => ⟨(h.1 c 0).trans (Cert.Kernel.Moe.finalA_0 m c), (h.1 c 1).trans (Cert.Kernel.Moe.finalA_1 m c),
      (h.1 c 2).trans (Cert.Kernel.Moe.finalA_2 m c), (h.1 c 3).trans (Cert.Kernel.Moe.finalA_3 m c),
      (h.1 c 4).trans (Cert.Kernel.Moe.finalA_4 m c)⟩, h.2⟩)
    (Cert.Kernel.Moe.run_main (F := Bits) m ρ)

/-- The same of the kernel over the extended reals. -/
theorem frame_ideal : Cert.quiescent_KernelIdeal := fun m ρ _ =>
  (θ_run Cert.KernelIdeal.defs _ _).mono
    (fun _ h => ⟨fun c => ⟨(h.1 c 0).trans (Cert.KernelIdeal.Moe.finalA_0 m c), (h.1 c 1).trans (Cert.KernelIdeal.Moe.finalA_1 m c),
      (h.1 c 2).trans (Cert.KernelIdeal.Moe.finalA_2 m c), (h.1 c 3).trans (Cert.KernelIdeal.Moe.finalA_3 m c),
      (h.1 c 4).trans (Cert.KernelIdeal.Moe.finalA_4 m c)⟩, h.2⟩)
    (Cert.KernelIdeal.Moe.run_main (F := Ideal) m ρ)

/-- The reference runs, changes no argument and leaves every counter at zero. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

/-- Under the precondition too: the frames need none. -/
theorem frame_ideal_pre : Cert.quiescent_KernelIdeal_pre_finite_and_routed_KernelIdeal := fun m ρ _ => frame_ideal m ρ trivial
theorem frame_reference_pre : Cert.quiescent_ReferenceIdeal_pre_finite_and_routed_ReferenceIdeal := fun m ρ _ => frame_reference m ρ trivial

/-- Device by device the kernel's result is the device's block of the reference's. -/
theorem algebraic : Cert.algebraic_KernelIdeal_ReferenceIdeal_pre_finite_and_routed_KernelIdeal := fun m g m' g' hpre hargs => by
  refine ⟨Cert.ReferenceIdeal.Value.res_main_v27 m' 0, ?_, ?_⟩
  · refine (θ_run Cert.KernelIdeal.defs _ _).mono (fun r h c => ?_) (Cert.KernelIdeal.Moe.run_main (F := Ideal) m g)
    refine ⟨?_, (h.1 c 0).trans (Cert.KernelIdeal.Moe.finalA_0 m c), (h.1 c 1).trans (Cert.KernelIdeal.Moe.finalA_1 m c),
      (h.1 c 2).trans (Cert.KernelIdeal.Moe.finalA_2 m c), (h.1 c 3).trans (Cert.KernelIdeal.Moe.finalA_3 m c),
      (h.1 c 4).trans (Cert.KernelIdeal.Moe.finalA_4 m c)⟩
    refine (h.1 c 5).trans ((Cert.KernelIdeal.Moe.finalA_5 m c).trans ?_)
    exact Cert.Moe.result_eq m m' hpre
      (fun c => (Cert.KernelIdeal.Moe.stg0_eq m c).trans (hargs c).1)
      (fun c => (Cert.KernelIdeal.Moe.stg1_eq m c).trans (hargs c).2.1)
      (fun c => (Cert.KernelIdeal.Moe.stg2_eq m c).trans (hargs c).2.2.1)
      (fun c => (Cert.KernelIdeal.Moe.stg3_eq m c).trans (hargs c).2.2.2.1)
      (fun c => (Cert.KernelIdeal.Moe.stg4_eq m c).trans (hargs c).2.2.2.2) c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Moe.pre_kernel_facts, Cert.Moe.pre_reference_facts,
  frame_kernel, frame_ideal, frame_ideal_pre, frame_reference, frame_reference_pre, trivial, algebraic⟩

end Cert.Proof

end
